-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3072x7168 : Shape := ⟨3, ![8, 3072, 7168]⟩
abbrev S20480x7168 : Shape := ⟨2, ![20480, 7168]⟩
abbrev S20480 : Shape := ⟨1, ![20480]⟩
abbrev S256x256 : Shape := ⟨2, ![256, 256]⟩
abbrev S24576x7168 : Shape := ⟨2, ![24576, 7168]⟩
abbrev S24576x1 : Shape := ⟨2, ![24576, 1]⟩
abbrev S256x7168 : Shape := ⟨2, ![256, 7168]⟩
abbrev S256x1 : Shape := ⟨2, ![256, 1]⟩
abbrev S256 : Shape := ⟨1, ![256]⟩
abbrev S1x20480 : Shape := ⟨2, ![1, 20480]⟩
abbrev S3072x8x20480 : Shape := ⟨3, ![3072, 8, 20480]⟩
abbrev S1024x7168 : Shape := ⟨2, ![1024, 7168]⟩
abbrev S1024x1 : Shape := ⟨2, ![1024, 1]⟩
abbrev S1x1024 : Shape := ⟨2, ![1, 1024]⟩
abbrev S128x8x1024 : Shape := ⟨3, ![128, 8, 1024]⟩
abbrev S1024x1024 : Shape := ⟨2, ![1024, 1024]⟩
abbrev S8x3072x20480 : Shape := ⟨3, ![8, 3072, 20480]⟩
abbrev S8x3072x1 : Shape := ⟨3, ![8, 3072, 1]⟩

abbrev nBuf : Space → Nat
  | .hbm => 12
  | .vmem => 18
  | .smem => 0
  | _ => 0

abbrev bufTy : (tb : Table) → Fin (tcTables nBuf tb) → BufTy
  | .hbm, ⟨0, _⟩ => ⟨S8x3072x7168, .bf16⟩
  | .hbm, ⟨1, _⟩ => ⟨S20480x7168, .i8⟩
  | .hbm, ⟨2, _⟩ => ⟨S20480, .f32⟩
  | .hbm, ⟨3, _⟩ => ⟨S256x256, .bf16⟩
  | .hbm, ⟨4, _⟩ => ⟨S24576x7168, .bf16⟩
  | .hbm, ⟨5, _⟩ => ⟨S24576x7168, .i8⟩
  | .hbm, ⟨6, _⟩ => ⟨S24576x1, .f32⟩
  | .hbm, ⟨7, _⟩ => ⟨S1x20480, .f32⟩
  | .hbm, ⟨8, _⟩ => ⟨S3072x8x20480, .bf16⟩
  | .hbm, ⟨9, _⟩ => ⟨S8x3072x20480, .bf16⟩
  | .hbm, ⟨10, _⟩ => ⟨S8x3072x7168, .i8⟩
  | .hbm, ⟨11, _⟩ => ⟨S8x3072x1, .f32⟩
  | .local _ .vmem, ⟨0, _⟩ => ⟨S256x7168, .bf16⟩
  | .local _ .vmem, ⟨1, _⟩ => ⟨S256x7168, .bf16⟩
  | .local _ .vmem, ⟨2, _⟩ => ⟨S256x256, .bf16⟩
  | .local _ .vmem, ⟨3, _⟩ => ⟨S256x7168, .i8⟩
  | .local _ .vmem, ⟨4, _⟩ => ⟨S256x7168, .i8⟩
  | .local _ .vmem, ⟨5, _⟩ => ⟨S256x1, .f32⟩
  | .local _ .vmem, ⟨6, _⟩ => ⟨S256x1, .f32⟩
  | .local _ .vmem, ⟨7, _⟩ => ⟨S256x7168, .f32⟩
  | .local _ .vmem, ⟨8, _⟩ => ⟨S1024x7168, .i8⟩
  | .local _ .vmem, ⟨9, _⟩ => ⟨S1024x7168, .i8⟩
  | .local _ .vmem, ⟨10, _⟩ => ⟨S1024x7168, .i8⟩
  | .local _ .vmem, ⟨11, _⟩ => ⟨S1024x7168, .i8⟩
  | .local _ .vmem, ⟨12, _⟩ => ⟨S1024x1, .f32⟩
  | .local _ .vmem, ⟨13, _⟩ => ⟨S1024x1, .f32⟩
  | .local _ .vmem, ⟨14, _⟩ => ⟨S1x1024, .f32⟩
  | .local _ .vmem, ⟨15, _⟩ => ⟨S1x1024, .f32⟩
  | .local _ .vmem, ⟨16, _⟩ => ⟨S128x8x1024, .bf16⟩
  | .local _ .vmem, ⟨17, _⟩ => ⟨S128x8x1024, .bf16⟩
  | _, _ => ⟨S8x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![24, 20], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1024x7168 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x7168 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S128x8x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S8x3072x7168 : Shape := ⟨3, ![8, 3072, 7168]⟩
abbrev S20480x7168 : Shape := ⟨2, ![20480, 7168]⟩
abbrev S20480 : Shape := ⟨1, ![20480]⟩
abbrev S128x128 : Shape := ⟨2, ![128, 128]⟩
abbrev S8x3072x56x128 : Shape := ⟨4, ![8, 3072, 56, 128]⟩
abbrev S8x3072x20480 : Shape := ⟨3, ![8, 3072, 20480]⟩
abbrev S8x3072x1 : Shape := ⟨3, ![8, 3072, 1]⟩
abbrev S8x3072 : Shape := ⟨2, ![8, 3072]⟩
abbrev S1x1x20480 : Shape := ⟨3, ![1, 1, 20480]⟩

abbrev nBuf : Space → Nat
  | .hbm => 11
  | .vmem => 6
  | .smem => 0
  | _ => 0

abbrev bufTy : (tb : Table) → Fin (tcTables nBuf tb) → BufTy
  | .hbm, ⟨0, _⟩ => ⟨S8x3072x7168, .bf16⟩
  | .hbm, ⟨1, _⟩ => ⟨S20480x7168, .i8⟩
  | .hbm, ⟨2, _⟩ => ⟨S20480, .f32⟩
  | .hbm, ⟨3, _⟩ => ⟨S128x128, .f32⟩
  | .hbm, ⟨4, _⟩ => ⟨S8x3072x7168, .f32⟩
  | .hbm, ⟨5, _⟩ => ⟨S8x3072x56x128, .f32⟩
  | .hbm, ⟨6, _⟩ => ⟨S8x3072x56x128, .f32⟩
  | .hbm, ⟨7, _⟩ => ⟨S8x3072x7168, .f32⟩
  | .hbm, ⟨8, _⟩ => ⟨S8x3072x20480, .bf16⟩
  | .hbm, ⟨9, _⟩ => ⟨S8x3072x7168, .i8⟩
  | .hbm, ⟨10, _⟩ => ⟨S8x3072x1, .f32⟩
  | .local _ .vmem, ⟨0, _⟩ => ⟨S8x3072x7168, .f32⟩
  | .local _ .vmem, ⟨1, _⟩ => ⟨S20480x7168, .i8⟩
  | .local _ .vmem, ⟨2, _⟩ => ⟨S20480, .f32⟩
  | .local _ .vmem, ⟨3, _⟩ => ⟨S8x3072x20480, .bf16⟩
  | .local _ .vmem, ⟨4, _⟩ => ⟨S8x3072x7168, .i8⟩
  | .local _ .vmem, ⟨5, _⟩ => ⟨S8x3072x1, .f32⟩
  | _, _ => ⟨S8x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x3072x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20480x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x3072x20480 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x3072x7168 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x3072x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Arith.lean ====
/- Extended-real and integer facts the certificate uses, free of either program: the rotation scaled before or after its sum,
   the range of a code, and the 8-bit integer product of codes. -/
module

public import Idealize.ShloMosaic.Lib.IntMxu
public import Idealize.ShloMosaic.Lib.IdealHost
public import Idealize.ShloMosaic.Lib.Pointwise
public import Idealize.ShloMosaic.PureOps.Ideal.Laws

@[expose] public section

noncomputable section

namespace Cert.Rotated

open Idealize.ShloMosaic

/-- The real value of the f32 constant 1/√128 the programs share. -/
def cnorm : ℝ := 11863283 / 134217728

/-- The constant is positive. -/
theorem cnorm_nonneg : (0 : ℝ) ≤ cnorm := by unfold cnorm; norm_num

/-- The f32 word of 1/√128 denotes that real. -/
theorem ofBits_norm : Ideal.ofBits .f32 0x3DB504F3#32 = ((cnorm : ℝ) : EReal) := by
  unfold cnorm
  simp [Ideal.ofBits, Ideal.ieee, -EReal.coe_mul]; norm_num

/-- The f32 word of −1/√128 denotes its negation. -/
theorem ofBits_neg_norm : Ideal.ofBits .f32 0xBDB504F3#32 = ((-cnorm : ℝ) : EReal) := by
  unfold cnorm
  simp [Ideal.ofBits, Ideal.ieee, -EReal.coe_mul, -EReal.coe_neg]; norm_num

/-- The bf16 word of minus zero denotes zero. -/
theorem ofBits_neg_zero : Ideal.ofBits .bf16 0x8000#16 = 0 := by
  simp [Ideal.ofBits, Ideal.ieee]

/-- The f32 word of 7. -/
theorem ofBits_seven : Ideal.ofBits .f32 0x40E00000#32 = ((7 : ℝ) : EReal) := by
  simp [Ideal.ofBits, Ideal.ieee, -EReal.coe_mul]; norm_num

/-- The f32 word of −7. -/
theorem ofBits_neg_seven : Ideal.ofBits .f32 0xC0E00000#32 = ((-7 : ℝ) : EReal) := by
  simp [Ideal.ofBits, Ideal.ieee, -EReal.coe_mul, -EReal.coe_neg]; norm_num

/-- The f32 word of minus infinity. -/
theorem ofBits_neg_inf : Ideal.ofBits .f32 0xFF800000#32 = ⊥ := by
  simp [Ideal.ofBits, Ideal.ieee]

/-- A nonnegative real factor moves into a finite sum of extended reals. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top _) _ _

/-- One rotated element. The kernel contracts 256 columns with a table that is zero outside its two diagonal blocks and
    scales the sum; the reference contracts the 128 columns of the element's own block with the scaled table. -/
theorem rot_eq (X : Fin 7168 → EReal) (S : Fin 256 → Fin 256 → EReal) (H : Fin 128 → Fin 128 → EReal)
    (hS : ∀ k j : Fin 256, if k.val / 128 = j.val / 128
      then S k j * (cnorm : EReal) = H ⟨k.val % 128, Nat.mod_lt _ (by decide)⟩ ⟨j.val % 128, Nat.mod_lt _ (by decide)⟩
      else S k j = 0)
    (g : ℕ) (hg : g < 28) (j : Fin 256) (l : Fin 7168) (hl : l.val = 256 * g + j.val) :
    (∑ k : Fin 256, X ⟨256 * g + k.val, by omega⟩ * S k j) * (cnorm : EReal)
      = ∑ k : Fin 128, X ⟨l.val / 128 * 128 + k.val, by omega⟩ * H k ⟨l.val % 128, Nat.mod_lt _ (by decide)⟩ := by
  rw [sum_mul_real _ _ _ cnorm_nonneg]
  have hin : ∀ k : Fin 256, k.val / 128 = j.val / 128 →
      X ⟨256 * g + k.val, by omega⟩ * S k j * (cnorm : EReal)
        = X ⟨256 * g + k.val, by omega⟩ * H ⟨k.val % 128, Nat.mod_lt _ (by decide)⟩ ⟨j.val % 128, Nat.mod_lt _ (by decide)⟩ := by
    intro k hk
    have := hS k j
    rw [if_pos hk] at this
    rw [mul_assoc, this]
  have hout : ∀ k : Fin 256, ¬ k.val / 128 = j.val / 128 →
      X ⟨256 * g + k.val, by omega⟩ * S k j * (cnorm : EReal) = 0 := by
    intro k hk
    have := hS k j
    rw [if_neg hk] at this
    rw [this, mul_zero, zero_mul]
  generalize hF : (fun k : Fin 256 => X ⟨256 * g + k.val, by omega⟩ * S k j * (cnorm : EReal)) = F at *
  replace hin : ∀ k : Fin 256, k.val / 128 = j.val / 128 → F k
      = X ⟨256 * g + k.val, by omega⟩ * H ⟨k.val % 128, Nat.mod_lt _ (by decide)⟩ ⟨j.val % 128, Nat.mod_lt _ (by decide)⟩ := by
    subst hF; exact hin
  replace hout : ∀ k : Fin 256, ¬ k.val / 128 = j.val / 128 → F k = 0 := by subst hF; exact hout
  have hj' := j.isLt
  rw [Fin.sum_univ_two_halves 128 128 rfl]
  by_cases hj : j.val < 128
  · have h0 : ∑ k : Fin 128, F ⟨128 + k.val, by omega⟩ = 0 :=
      Finset.sum_eq_zero fun k _ => hout _ (by have := k.isLt; simp only; omega)
    rw [h0, add_zero]
    refine Finset.sum_congr rfl fun k _ => ?_
    have hk := k.isLt
    rw [hin ⟨k.val, by omega⟩ (by simp only; omega)]
    congr 2 <;> first | (apply Fin.ext; simp only; omega) | skip
  · have h0 : ∑ k : Fin 128, F ⟨k.val, by omega⟩ = 0 :=
      Finset.sum_eq_zero fun k _ => hout _ (by have := k.isLt; simp only; omega)
    rw [h0, zero_add]
    refine Finset.sum_congr rfl fun k _ => ?_
    have hk := k.isLt
    rw [hin ⟨128 + k.val, by omega⟩ (by simp only; omega)]
    congr 2 <;> first | (apply Fin.ext; simp only; omega) | skip

/-! ## The quantiser on one row -/

/-- The largest magnitude of a row. -/
@[irreducible] def rowMax (v : Fin 7168 → EReal) : EReal :=
  Finset.univ.fold max (Ideal.ofBits .f32 0xFF800000#32) fun l => max (v l) (-(v l))

/-- The row's scale: the largest magnitude over 7, and 1 for a row of zeros. -/
@[irreducible] def rowScale (v : Fin 7168 → EReal) : EReal := if rowMax v = 0 then 1 else Ideal.div (rowMax v) ((7 : ℝ) : EReal)

/-- One code: the element over the row's scale, rounded to nearest even, kept in −7 … 7, as an 8-bit word. -/
@[irreducible] def code (x s : EReal) : BitVec 8 :=
  Ideal.fptosi 8 (min ((7 : ℝ) : EReal) (max ((-7 : ℝ) : EReal) (Ideal.liftRound Ideal.roundHalfEven (Ideal.div x s))))

/-- A code has magnitude at most 7. -/
theorem natAbs_code_le (x s : EReal) : (code x s).toInt.natAbs ≤ 7 := by
  unfold code
  generalize Ideal.liftRound Ideal.roundHalfEven (Ideal.div x s) = y
  obtain ⟨r, h1, h2, hr⟩ : ∃ r : ℝ, -7 ≤ r ∧ r ≤ 7 ∧ min ((7 : ℝ) : EReal) (max ((-7 : ℝ) : EReal) y) = (r : EReal) := by
    induction y using EReal.rec with
    | bot => exact ⟨-7, by norm_num, by norm_num, by rw [max_eq_left bot_le, min_eq_right (by exact_mod_cast (by norm_num : (-7 : ℝ) ≤ 7))]⟩
    | top => exact ⟨7, by norm_num, by norm_num, by rw [max_eq_right le_top, min_eq_left le_top]⟩
    | coe r =>
      refine ⟨min 7 (max (-7) r), ?_, min_le_left _ _, ?_⟩
      · exact le_min (by norm_num) (le_max_left _ _)
      · norm_cast
  rw [hr]
  have hz : -7 ≤ (if 0 ≤ r then ⌊r⌋ else ⌈r⌉) ∧ (if 0 ≤ r then ⌊r⌋ else ⌈r⌉) ≤ 7 := by
    split
    · exact ⟨Int.le_floor.mpr (by exact_mod_cast h1), by exact_mod_cast (Int.floor_le r).trans h2⟩
    · refine ⟨?_, Int.ceil_le.mpr (by exact_mod_cast h2)⟩
      exact_mod_cast h1.trans (Int.le_ceil r)
  have : (Ideal.fptosi 8 (r : EReal)) = BitVec.ofInt 8 (max (-128) (min 127 (if 0 ≤ r then ⌊r⌋ else ⌈r⌉))) := rfl
  rw [this]
  generalize (if 0 ≤ r then ⌊r⌋ else ⌈r⌉) = z at hz
  rw [BitVec.toInt_ofInt]
  rw [Int.bmod_eq_of_le (by omega) (by omega)]
  omega

/-- One element of the quantised product: the row's codes against a row of weights, summed exactly in 32 bits, then scaled
    by the row's scale and by the weights' scale. -/
@[irreducible] def product (v : Fin 7168 → EReal) (w : Fin 7168 → BitVec 8) (ws : EReal) : EReal :=
  (((BitVec.ofInt 32 (∑ k : Fin 7168, (code (v k) (rowScale v)).toInt * (w k).toInt)).toInt : ℝ) : EReal) * rowScale v * ws

/-- How both programs spell a row's scale, from its largest magnitude. -/
theorem scale_select {S : Shape} (M : FVec Ideal S .f32) (j : S.Idx) (v : Fin 7168 → EReal) (h : M j = rowMax v) :
    select (cmpf .oeq M (broadcast S (Scalar.ofBits (F := Ideal) .f32 0x00000000#32)))
      (broadcast S (Scalar.ofBits (F := Ideal) .f32 0x3F800000#32))
      (divf M (broadcast S (Scalar.ofBits (F := Ideal) .f32 0x40E00000#32))) j = rowScale v := by
  unfold rowScale
  rw [← h, ← ofBits_seven]
  pointwise

/-- The code as both programs write it. -/
theorem code_select {S : Shape} (X D : FVec Ideal S .f32) (j : S.Idx) :
    fptosi 8 (minimumf (broadcast S (Scalar.ofBits (F := Ideal) .f32 0x40E00000#32))
      (maximumf (broadcast S (Scalar.ofBits (F := Ideal) .f32 0xC0E00000#32)) (roundeven (divf X D)))) j = code (X j) (D j) := by
  unfold code
  rw [← ofBits_seven, ← ofBits_neg_seven]
  rfl

/-- The scaled product as both programs write it. -/
theorem product_select {S : Shape} (A : IVec S 32) (B C : FVec Ideal S .f32) (j : S.Idx) (v : Fin 7168 → EReal)
    (w : Fin 7168 → BitVec 8) (ws : EReal) (hb : FTy.bf16.bits < FTy.f32.bits)
    (hA : A j = BitVec.ofInt 32 (∑ k, (code (v k) (rowScale v)).toInt * (w k).toInt)) (hB : B j = rowScale v) (hC : C j = ws) :
    truncf .bf16 (mulf (mulf (sitofp (F := Ideal) .f32 A) B) C) hb j = product v w ws := by
  unfold product
  rw [← hA, ← hB, ← hC]
  rfl

/-! ## The integer product of codes -/

variable {sl sr so : Shape}

/-- The exact 8-bit product with one contracting axis, as a sum over that axis, the operands' indices named. -/
theorem dotI8_apply (d : DotDims sl sr so) {a : Fin sl.rank} (hc : d.lhsContracting = [a]) {K : Nat} (hK : sl.size a = K)
    (lhs : IVec sl 8) (rhs : IVec sr 8) (j : so.Idx) (L : Fin K → sl.Idx) (R : Fin K → sr.Idx)
    (hL : ∀ k, d.lhsIdx j (d.contrIdx₁ hc hK k) = L k) (hR : ∀ k, d.rhsIdx j (d.contrIdx₁ hc hK k) = R k) :
    dotI8 d lhs rhs j = ∑ k : Fin K, (lhs (L k)).toInt * (rhs (R k)).toInt := by
  unfold dotI8
  rw [d.sum_contr₁ hc hK]
  simp only [hL, hR]

/-- Into a zero accumulator, 7168 codes of magnitude at most 7 against any 8-bit words stay within the exact range of the
    integer product: 7168 · 7 · 128 is below 2²⁴. -/
theorem matmulI8_codes (d : DotDims sl sr so) {a : Fin sl.rank} (hc : d.lhsContracting = [a]) (hK : sl.size a = 7168)
    (lhs : IVec sl 8) (rhs : IVec sr 8) (acc : IVec so 32) (j : so.Idx) (h0 : acc j = 0)
    (hb : ∀ i, (lhs i).toInt.natAbs ≤ 7) (L : Fin 7168 → sl.Idx) (R : Fin 7168 → sr.Idx)
    (hL : ∀ k, d.lhsIdx j (d.contrIdx₁ hc hK k) = L k) (hR : ∀ k, d.rhsIdx j (d.contrIdx₁ hc hK k) = R k) :
    matmulI8 IntMxuNumerics.v7x d lhs rhs acc j
      = BitVec.ofInt 32 (∑ k : Fin 7168, (lhs (L k)).toInt * (rhs (R k)).toInt) := by
  rw [matmulI8_exact _ _ _ _ _ _ h0, dotI8_apply d hc hK lhs rhs j L R hL hR]
  unfold absDotI8
  rw [d.sum_contr₁ hc hK]
  refine (Finset.sum_le_card_nsmul Finset.univ _ (7 * 128) fun k _ => ?_).trans (by simp)
  rw [Int.natAbs_mul]
  exact Nat.mul_le_mul (hb _) (natAbs_toInt_i8_le _)

end Cert.Rotated
-- ==== Proof.RefPoint.lean ====
/- The reference's kernel body, read at one index: the row's scale, one code, one product. -/
module

public import proofs.«01_k».proof.Proof.Gen.ReferenceIdeal.Frame
public import proofs.«01_k».proof.Proof.Arith

@[expose] public section

set_option maxRecDepth 16384

noncomputable section

namespace Cert.ReferenceIdeal.Point

open Cert.ReferenceIdeal Cert.ReferenceIdeal.Gen Cert.Rotated
open Idealize.ShloMosaic Idealize.ShloMosaic.TcCoe Idealize.SL.Sem

/-- The reference's largest magnitude of row `(b, s)`. -/
theorem max_at (v : FVec Ideal S8x3072x7168 .f32) (b : Fin 8) (s : Fin 3072) (z : Fin 1) :
    shapeCast S8x3072x1 (multiReduction (F := Ideal) .maximumf [2] S8x3072 (absf (shapeCast S8x3072x7168 v shapeCasts_S8x3072x7168_S8x3072x7168))
      0xFF800000#32 reduces_S8x3072x7168_S8x3072 (.inl rfl) rfl) shapeCasts_S8x3072_S8x3072x1 (ix3 b s z)
      = rowMax (fun l => v (ix3 b s l)) := by
  pointwise
  unfold rowMax
  rfl

/-- The scale the reference stores for row `(b, s)`. -/
theorem scale_at (v : FVec Ideal S8x3072x7168 .f32) (b : Fin 8) (s : Fin 3072) (z : Fin 1) :
    k0_pay2 (F := Ideal) v (ix3 b s z) = rowScale (fun l => v (ix3 b s l)) := by
  unfold k0_pay2 k0_pay1
  dsimp only
  exact scale_select _ _ _ (max_at v b s z)

/-- A row scale stretched along the row. -/
theorem scale_stretched (S : FVec Ideal S8x3072x1 .f32) (b : Fin 8) (s : Fin 3072) (l : Fin 7168) :
    broadcastTo S8x3072x7168 S broadcasts_S8x3072x1_S8x3072x7168 (ix3 b s l) = S (ix3 b s 0) := by pointwise

/-- A cast to the same shape changes nothing. -/
theorem same_cast (v : FVec Ideal S8x3072x7168 .f32) (b : Fin 8) (s : Fin 3072) (l : Fin 7168) :
    shapeCast S8x3072x7168 v shapeCasts_S8x3072x7168_S8x3072x7168 (ix3 b s l) = v (ix3 b s l) := by pointwise

/-- The code the reference stores at `(b, s, l)`. -/
theorem code_at (v : FVec Ideal S8x3072x7168 .f32) (b : Fin 8) (s : Fin 3072) (l : Fin 7168) :
    k0_pay3 (F := Ideal) v (ix3 b s l) = code (v (ix3 b s l)) (rowScale (fun l => v (ix3 b s l))) := by
  have h := scale_at v b s 0
  unfold k0_pay3 k0_pay1
  dsimp only
  generalize k0_pay2 (F := Ideal) v = S at h ⊢
  rw [← h, ← scale_stretched S b s l, ← same_cast v b s l]
  exact code_select _ _ _

/-- The integer product the reference stores at `(b, s, o)`. -/
theorem dot_at (v : FVec Ideal S8x3072x7168 .f32) (w : IVec S20480x7168 8)
    (b : Fin 8) (s : Fin 3072) (o : Fin 20480) :
    matmulI8 IntMxuNumerics.v7x dot_S8x3072x7168_S20480x7168_S8x3072x20480_2_1_01_0_n_n (k0_pay3 (F := Ideal) v) w
      (constantI S8x3072x20480 32 0#32) (ix3 b s o)
      = BitVec.ofInt 32 (∑ k : Fin 7168, (code (v (ix3 b s k)) (rowScale (fun l => v (ix3 b s l)))).toInt * (w (ix2 o k)).toInt) := by
  simp only [← code_at]
  refine matmulI8_codes _ (a := 2) rfl rfl _ _ _ _ rfl ?_ (fun k => ix3 b s k) (fun k => ix2 o k) ?_ ?_
  · intro i
    obtain ⟨b', s', l', rfl⟩ : ∃ (b' : Fin 8) (s' : Fin 3072) (l' : Fin 7168), i = ix3 b' s' l' := ⟨i 0, i 1, i 2, eq_ix3 i⟩
    rw [code_at]
    exact natAbs_code_le _ _
  · intro k; funext a; fin_cases a <;> rfl
  · intro k; funext a; fin_cases a <;> rfl

/-- The weight scales stretched over the product. -/
theorem weight_stretched (ws : FVec Ideal S20480 .f32) (b : Fin 8) (s : Fin 3072) (o : Fin 20480) :
    broadcastTo S8x3072x20480 (shapeCast S1x1x20480 ws shapeCasts_S20480_S1x1x20480) broadcasts_S1x1x20480_S8x3072x20480 (ix3 b s o) = ws (ix1 o) := by pointwise

/-- The row scales stretched over the product. -/
theorem scale_stretched_out (S : FVec Ideal S8x3072x1 .f32) (b : Fin 8) (s : Fin 3072) (o : Fin 20480) :
    broadcastTo S8x3072x20480 S broadcasts_S8x3072x1_S8x3072x20480 (ix3 b s o) = S (ix3 b s 0) := by pointwise

/-- The product the reference stores at `(b, s, o)`. -/
theorem prod_at (v : FVec Ideal S8x3072x7168 .f32) (w : IVec S20480x7168 8) (ws : FVec Ideal S20480 .f32)
    (b : Fin 8) (s : Fin 3072) (o : Fin 20480) :
    k0_pay4 (F := Ideal) v w ws (ix3 b s o)
      = product (fun k => v (ix3 b s k)) (fun k => w (ix2 o k)) (ws (ix1 o)) := by
  unfold k0_pay4
  exact product_select _ _ _ _ _ _ _ _ (dot_at v w b s o)
    ((scale_stretched_out _ b s o).trans (scale_at v b s 0)) (weight_stretched ws b s o)

end Cert.ReferenceIdeal.Point
-- ==== Proof.Tables.Sign.lean ====
/- The entries of a Sylvester Hadamard matrix, as words, and how a printed table is compared with them entry by entry. -/
module

public import proofs.«01_k».proof.KernelIdeal
public import proofs.«01_k».proof.ReferenceIdeal

@[expose] public section

noncomputable section

namespace Cert.Tables

/-- The sign bit of entry `(k, j)` of the 128×128 Sylvester matrix: the parity of the bits `k` and `j` share. -/
def par (k j : Nat) : Nat :=
  (fun x : Nat => (x ^^^ x >>> 1 ^^^ x >>> 2 ^^^ x >>> 3 ^^^ x >>> 4 ^^^ x >>> 5 ^^^ x >>> 6) % 2) (k &&& j)

/-- The kernel's bf16 word at `(k, j)`: ±1 inside the two diagonal blocks, ±0 outside. -/
def kword (k j : Nat) : Nat :=
  Nat.add (Nat.mul 0x8000 (par (k % 128) (j % 128))) (bif Nat.beq (k / 128) (j / 128) then 0x3F80 else 0)

/-- The reference's f32 word at `(k, j)`: ±1/√128. -/
def rword (k j : Nat) : Nat := Nat.add (Nat.mul 0x80000000 (par k j)) 0x3DB504F3

/-- `p` holds at every number below `n`. -/
def all (n : Nat) (p : Nat → Bool) : Bool := Nat.rec true (fun k r => p k && r) n

/-- What `all` says. -/
theorem of_all {p : Nat → Bool} : ∀ {n : Nat}, all n p = true → ∀ k, k < n → p k = true := by
  intro n
  induction n with
  | zero => intro _ k hk; omega
  | succ n ih =>
    intro h k hk
    have h' : (p n && all n p) = true := h
    rw [Bool.and_eq_true] at h'
    rcases Nat.lt_or_ge k n with h1 | h1
    · exact ih h'.2 k h1
    · have : k = n := by omega
      subst this; exact h'.1

/-- Rows `8 n … 8 n + 7` of the kernel's table hold the stated words. -/
def krows (n : Nat) : Bool :=
  all 8 fun a => all 256 fun j => Nat.beq (Cert.KernelIdeal.lit0t ((8 * n + a) * 256 + j)).toNat (kword (8 * n + a) j)

/-- Rows `16 n … 16 n + 15` of the reference's table hold the stated words. -/
def rrows (n : Nat) : Bool :=
  all 16 fun a => all 128 fun j => Nat.beq (Cert.ReferenceIdeal.lit0t ((16 * n + a) * 128 + j)).toNat (rword (16 * n + a) j)

end Cert.Tables
-- ==== Proof.Tables.T0.lean ====
/- An eighth of the two sign tables, compared entry by entry. -/
module

public import proofs.«01_k».proof.Proof.Tables.Sign

@[expose] public section

set_option maxRecDepth 65536

namespace Cert.Tables

/-- Rows 0 to 7 of the kernel's table. -/
theorem krows_0 : krows 0 = true := by decide +kernel

/-- Rows 8 to 15 of the kernel's table. -/
theorem krows_1 : krows 1 = true := by decide +kernel

/-- Rows 16 to 23 of the kernel's table. -/
theorem krows_2 : krows 2 = true := by decide +kernel

/-- Rows 24 to 31 of the kernel's table. -/
theorem krows_3 : krows 3 = true := by decide +kernel

/-- Rows 0 to 15 of the reference's table. -/
theorem rrows_0 : rrows 0 = true := by decide +kernel

end Cert.Tables
-- ==== Proof.Tables.T1.lean ====
/- An eighth of the two sign tables, compared entry by entry. -/
module

public import proofs.«01_k».proof.Proof.Tables.Sign

@[expose] public section

set_option maxRecDepth 65536

namespace Cert.Tables

/-- Rows 32 to 39 of the kernel's table. -/
theorem krows_4 : krows 4 = true := by decide +kernel

/-- Rows 40 to 47 of the kernel's table. -/
theorem krows_5 : krows 5 = true := by decide +kernel

/-- Rows 48 to 55 of the kernel's table. -/
theorem krows_6 : krows 6 = true := by decide +kernel

/-- Rows 56 to 63 of the kernel's table. -/
theorem krows_7 : krows 7 = true := by decide +kernel

/-- Rows 16 to 31 of the reference's table. -/
theorem rrows_1 : rrows 1 = true := by decide +kernel

end Cert.Tables
-- ==== Proof.Tables.T2.lean ====
/- An eighth of the two sign tables, compared entry by entry. -/
module

public import proofs.«01_k».proof.Proof.Tables.Sign

@[expose] public section

set_option maxRecDepth 65536

namespace Cert.Tables

/-- Rows 64 to 71 of the kernel's table. -/
theorem krows_8 : krows 8 = true := by decide +kernel

/-- Rows 72 to 79 of the kernel's table. -/
theorem krows_9 : krows 9 = true := by decide +kernel

/-- Rows 80 to 87 of the kernel's table. -/
theorem krows_10 : krows 10 = true := by decide +kernel

/-- Rows 88 to 95 of the kernel's table. -/
theorem krows_11 : krows 11 = true := by decide +kernel

/-- Rows 32 to 47 of the reference's table. -/
theorem rrows_2 : rrows 2 = true := by decide +kernel

end Cert.Tables
-- ==== Proof.Tables.T3.lean ====
/- An eighth of the two sign tables, compared entry by entry. -/
module

public import proofs.«01_k».proof.Proof.Tables.Sign

@[expose] public section

set_option maxRecDepth 65536

namespace Cert.Tables

/-- Rows 96 to 103 of the kernel's table. -/
theorem krows_12 : krows 12 = true := by decide +kernel

/-- Rows 104 to 111 of the kernel's table. -/
theorem krows_13 : krows 13 = true := by decide +kernel

/-- Rows 112 to 119 of the kernel's table. -/
theorem krows_14 : krows 14 = true := by decide +kernel

/-- Rows 120 to 127 of the kernel's table. -/
theorem krows_15 : krows 15 = true := by decide +kernel

/-- Rows 48 to 63 of the reference's table. -/
theorem rrows_3 : rrows 3 = true := by decide +kernel

end Cert.Tables
-- ==== Proof.Tables.T4.lean ====
/- An eighth of the two sign tables, compared entry by entry. -/
module

public import proofs.«01_k».proof.Proof.Tables.Sign

@[expose] public section

set_option maxRecDepth 65536

namespace Cert.Tables

/-- Rows 128 to 135 of the kernel's table. -/
theorem krows_16 : krows 16 = true := by decide +kernel

/-- Rows 136 to 143 of the kernel's table. -/
theorem krows_17 : krows 17 = true := by decide +kernel

/-- Rows 144 to 151 of the kernel's table. -/
theorem krows_18 : krows 18 = true := by decide +kernel

/-- Rows 152 to 159 of the kernel's table. -/
theorem krows_19 : krows 19 = true := by decide +kernel

/-- Rows 64 to 79 of the reference's table. -/
theorem rrows_4 : rrows 4 = true := by decide +kernel

end Cert.Tables
-- ==== Proof.Tables.T5.lean ====
/- An eighth of the two sign tables, compared entry by entry. -/
module

public import proofs.«01_k».proof.Proof.Tables.Sign

@[expose] public section

set_option maxRecDepth 65536

namespace Cert.Tables

/-- Rows 160 to 167 of the kernel's table. -/
theorem krows_20 : krows 20 = true := by decide +kernel

/-- Rows 168 to 175 of the kernel's table. -/
theorem krows_21 : krows 21 = true := by decide +kernel

/-- Rows 176 to 183 of the kernel's table. -/
theorem krows_22 : krows 22 = true := by decide +kernel

/-- Rows 184 to 191 of the kernel's table. -/
theorem krows_23 : krows 23 = true := by decide +kernel

/-- Rows 80 to 95 of the reference's table. -/
theorem rrows_5 : rrows 5 = true := by decide +kernel

end Cert.Tables
-- ==== Proof.Tables.T6.lean ====
/- An eighth of the two sign tables, compared entry by entry. -/
module

public import proofs.«01_k».proof.Proof.Tables.Sign

@[expose] public section

set_option maxRecDepth 65536

namespace Cert.Tables

/-- Rows 192 to 199 of the kernel's table. -/
theorem krows_24 : krows 24 = true := by decide +kernel

/-- Rows 200 to 207 of the kernel's table. -/
theorem krows_25 : krows 25 = true := by decide +kernel

/-- Rows 208 to 215 of the kernel's table. -/
theorem krows_26 : krows 26 = true := by decide +kernel

/-- Rows 216 to 223 of the kernel's table. -/
theorem krows_27 : krows 27 = true := by decide +kernel

/-- Rows 96 to 111 of the reference's table. -/
theorem rrows_6 : rrows 6 = true := by decide +kernel

end Cert.Tables
-- ==== Proof.Tables.T7.lean ====
/- An eighth of the two sign tables, compared entry by entry. -/
module

public import proofs.«01_k».proof.Proof.Tables.Sign

@[expose] public section

set_option maxRecDepth 65536

namespace Cert.Tables

/-- Rows 224 to 231 of the kernel's table. -/
theorem krows_28 : krows 28 = true := by decide +kernel

/-- Rows 232 to 239 of the kernel's table. -/
theorem krows_29 : krows 29 = true := by decide +kernel

/-- Rows 240 to 247 of the kernel's table. -/
theorem krows_30 : krows 30 = true := by decide +kernel

/-- Rows 248 to 255 of the kernel's table. -/
theorem krows_31 : krows 31 = true := by decide +kernel

/-- Rows 112 to 127 of the reference's table. -/
theorem rrows_7 : rrows 7 = true := by decide +kernel

end Cert.Tables
-- ==== Proof.Tables.lean ====
/- The two sign tables, whole. -/
module

public import Mathlib.Tactic.IntervalCases
public import proofs.«01_k».proof.Proof.Tables.T0
public import proofs.«01_k».proof.Proof.Tables.T1
public import proofs.«01_k».proof.Proof.Tables.T2
public import proofs.«01_k».proof.Proof.Tables.T3
public import proofs.«01_k».proof.Proof.Tables.T4
public import proofs.«01_k».proof.Proof.Tables.T5
public import proofs.«01_k».proof.Proof.Tables.T6
public import proofs.«01_k».proof.Proof.Tables.T7

@[expose] public section

namespace Cert.Tables

/-- Every group of rows of the kernel's table. -/
theorem krows_all (n : Nat) (h : n < 32) : krows n = true := by
  interval_cases n
  · exact krows_0
  · exact krows_1
  · exact krows_2
  · exact krows_3
  · exact krows_4
  · exact krows_5
  · exact krows_6
  · exact krows_7
  · exact krows_8
  · exact krows_9
  · exact krows_10
  · exact krows_11
  · exact krows_12
  · exact krows_13
  · exact krows_14
  · exact krows_15
  · exact krows_16
  · exact krows_17
  · exact krows_18
  · exact krows_19
  · exact krows_20
  · exact krows_21
  · exact krows_22
  · exact krows_23
  · exact krows_24
  · exact krows_25
  · exact krows_26
  · exact krows_27
  · exact krows_28
  · exact krows_29
  · exact krows_30
  · exact krows_31

/-- Every group of rows of the reference's table. -/
theorem rrows_all (n : Nat) (h : n < 8) : rrows n = true := by
  interval_cases n
  · exact rrows_0
  · exact rrows_1
  · exact rrows_2
  · exact rrows_3
  · exact rrows_4
  · exact rrows_5
  · exact rrows_6
  · exact rrows_7

/-- The kernel's word at `(k, j)`. -/
theorem kernel_word (k j : Nat) (hk : k < 256) (hj : j < 256) :
    (Cert.KernelIdeal.lit0t (k * 256 + j)).toNat = kword k j := by
  have h := of_all (of_all (krows_all (k / 8) (by omega)) (k % 8) (by omega)) j hj
  have e : 8 * (k / 8) + k % 8 = k := by omega
  rw [e] at h
  exact Nat.eq_of_beq_eq_true h

/-- The reference's word at `(k, j)`. -/
theorem reference_word (k j : Nat) (hk : k < 128) (hj : j < 128) :
    (Cert.ReferenceIdeal.lit0t (k * 128 + j)).toNat = rword k j := by
  have h := of_all (of_all (rrows_all (k / 16) (by omega)) (k % 16) (by omega)) j hj
  have e : 16 * (k / 16) + k % 16 = k := by omega
  rw [e] at h
  exact Nat.eq_of_beq_eq_true h

/-- A parity is 0 or 1. -/
theorem par_lt (k j : Nat) : par k j < 2 := Nat.mod_lt _ (by decide)

end Cert.Tables
-- ==== Proof.Rotation.lean ====
/- The two sign tables as extended reals, and one rotated element computed from either. -/
module

public import proofs.«01_k».proof.Proof.Tables
public import proofs.«01_k».proof.Proof.Arith

@[expose] public section

set_option maxRecDepth 16384

noncomputable section

namespace Cert.Rotated

open Idealize.ShloMosaic

/-- The kernel's 256×256 table at `(k, j)`. -/
@[irreducible] def kTable (k j : Fin 256) : EReal :=
  Ideal.ofBits .bf16 (Cert.KernelIdeal.lit0t (k.val * 256 + j.val))

/-- The reference's 128×128 table at `(k, j)`. -/
@[irreducible] def rTable (k j : Fin 128) : EReal :=
  Ideal.ofBits .f32 (Cert.ReferenceIdeal.lit0t (k.val * 128 + j.val))

/-- The kernel's table, scaled by 1/√128, is the reference's inside the two diagonal blocks, and zero outside. -/
theorem tables (k j : Fin 256) : if k.val / 128 = j.val / 128
    then kTable k j * (cnorm : EReal)
      = rTable ⟨k.val % 128, Nat.mod_lt _ (by decide)⟩ ⟨j.val % 128, Nat.mod_lt _ (by decide)⟩
    else kTable k j = 0 := by
  have hk := Cert.Tables.kernel_word k j k.isLt j.isLt
  have hr := Cert.Tables.reference_word (k.val % 128) (j.val % 128) (Nat.mod_lt _ (by decide)) (Nat.mod_lt _ (by decide))
  have hp := Cert.Tables.par_lt (k.val % 128) (j.val % 128)
  unfold Cert.Tables.kword at hk
  unfold Cert.Tables.rword at hr
  unfold kTable rTable
  dsimp only at hk hr ⊢
  generalize Cert.KernelIdeal.lit0t (k.val * 256 + j.val) = a at hk ⊢
  generalize Cert.ReferenceIdeal.lit0t (k.val % 128 * 128 + j.val % 128) = b at hr ⊢
  generalize Cert.Tables.par (k.val % 128) (j.val % 128) = p at hk hr hp
  have hb : Nat.beq (k.val / 128) (j.val / 128) = decide (k.val / 128 = j.val / 128) := by
    rw [Bool.eq_iff_iff, Nat.beq_eq, decide_eq_true_eq]
  rw [hb] at hk
  obtain rfl | rfl : p = 0 ∨ p = 1 := by omega
  · obtain rfl : b = 0x3DB504F3#32 := BitVec.eq_of_toNat_eq (by rw [hr]; decide)
    split_ifs with h
    · obtain rfl : a = 0x3F80#16 := BitVec.eq_of_toNat_eq (by rw [hk, decide_eq_true h]; decide)
      rw [Ideal.ofBits_one_bf16, ofBits_norm, one_mul]
    · obtain rfl : a = 0x0000#16 := BitVec.eq_of_toNat_eq (by rw [hk, decide_eq_false h]; decide)
      exact Ideal.ofBits_zero_bf16
  · obtain rfl : b = 0xBDB504F3#32 := BitVec.eq_of_toNat_eq (by rw [hr]; decide)
    split_ifs with h
    · obtain rfl : a = 0xBF80#16 := BitVec.eq_of_toNat_eq (by rw [hk, decide_eq_true h]; decide)
      rw [Ideal.ofBits_neg_one_bf16, ofBits_neg_norm, neg_mul, EReal.coe_one, one_mul, EReal.coe_neg]
    · obtain rfl : a = 0x8000#16 := BitVec.eq_of_toNat_eq (by rw [hk, decide_eq_false h]; decide)
      exact ofBits_neg_zero

/-- One rotated element of a row: lane `l`'s own group of 128 lanes times the reference's table. -/
@[irreducible] def rot (x : Fin 7168 → EReal) (l : Fin 7168) : EReal :=
  ∑ k : Fin 128, x ⟨l.val / 128 * 128 + k.val, by omega⟩ * rTable k ⟨l.val % 128, Nat.mod_lt _ (by decide)⟩

/-- The kernel's rotated element: a chunk of 256 lanes times its table, then scaled. -/
theorem kernel_rot (x : Fin 7168 → EReal) (g : ℕ) (hg : g < 28) (j : Fin 256) (l : Fin 7168) (hl : l.val = 256 * g + j.val) :
    (∑ k : Fin 256, x ⟨256 * g + k.val, by omega⟩ * kTable k j) * (cnorm : EReal) = rot x l := by
  unfold rot
  exact rot_eq x kTable rTable tables g hg j l hl

/-- The largest magnitude of chunk `n` of 256 lanes. -/
@[irreducible] def chunkMax (y : Fin 7168 → EReal) (n : ℕ) : EReal :=
  Finset.univ.fold max (Ideal.ofBits .f32 0xFF800000#32) fun j : Fin 256 =>
    max (y ⟨(256 * n + j.val) % 7168, Nat.mod_lt _ (by decide)⟩) (-(y ⟨(256 * n + j.val) % 7168, Nat.mod_lt _ (by decide)⟩))

/-- The running maximum over the first `n` chunks, from zero. -/
def runMax (y : Fin 7168 → EReal) : ℕ → EReal
  | 0 => 0
  | n + 1 => max (runMax y n) (chunkMax y n)

/-- A chunk's maximum is bounded exactly when each of its magnitudes is. -/
theorem chunkMax_le (y : Fin 7168 → EReal) (n : ℕ) (c : EReal) : chunkMax y n ≤ c ↔
    ∀ j : Fin 256, max (y ⟨(256 * n + j.val) % 7168, Nat.mod_lt _ (by decide)⟩)
      (-(y ⟨(256 * n + j.val) % 7168, Nat.mod_lt _ (by decide)⟩)) ≤ c := by
  unfold chunkMax
  rw [Finset.fold_max_le, ofBits_neg_inf]
  simp

/-- The running maximum is bounded exactly when zero and each chunk's maximum is. -/
theorem runMax_le (y : Fin 7168 → EReal) (c : EReal) (n : ℕ) : runMax y n ≤ c ↔ 0 ≤ c ∧ ∀ g < n, chunkMax y g ≤ c := by
  induction n with
  | zero => simp [runMax]
  | succ n ih =>
    rw [runMax, max_le_iff, ih]
    constructor
    · rintro ⟨⟨h0, h⟩, hn⟩
      refine ⟨h0, fun g hg => ?_⟩
      rcases Nat.lt_succ_iff_lt_or_eq.mp hg with h' | rfl
      · exact h g h'
      · exact hn
    · rintro ⟨h0, h⟩
      exact ⟨⟨h0, fun g hg => h g (by omega)⟩, h n (by omega)⟩

/-- A row's largest magnitude is bounded exactly when each magnitude is. -/
theorem rowMax_le (y : Fin 7168 → EReal) (c : EReal) : rowMax y ≤ c ↔ ∀ l, max (y l) (-(y l)) ≤ c := by
  unfold rowMax
  rw [Finset.fold_max_le, ofBits_neg_inf]
  simp

/-- A magnitude is not negative. -/
theorem magnitude_nonneg (a : EReal) : 0 ≤ max a (-a) := by
  rcases le_total 0 a with h | h
  · exact le_max_of_le_left h
  · exact le_max_of_le_right (EReal.neg_nonneg.mpr h)

/-- The running maximum over all 28 chunks is the row's. -/
theorem runMax_all (y : Fin 7168 → EReal) : runMax y 28 = rowMax y := by
  refine eq_of_forall_ge_iff fun c => ?_
  rw [runMax_le, rowMax_le]
  constructor
  · rintro ⟨-, h⟩ l
    have := (chunkMax_le y (l.val / 256) c).mp (h _ (by omega)) ⟨l.val % 256, Nat.mod_lt _ (by decide)⟩
    have e : (⟨(256 * (l.val / 256) + l.val % 256) % 7168, Nat.mod_lt _ (by decide)⟩ : Fin 7168) = l :=
      Fin.ext (by show (256 * (l.val / 256) + l.val % 256) % 7168 = l.val; omega)
    simpa only [e] using this
  · intro h
    exact ⟨(magnitude_nonneg _).trans (h ⟨0, by decide⟩), fun g _ => (chunkMax_le y g c).mpr fun j => h _⟩

end Cert.Rotated
-- ==== Proof.RefValue.lean ====
/- The reference's three result arrays as functions of the arguments. -/
module

public import proofs.«01_k».proof.Proof.Gen.ReferenceIdeal.Value
public import proofs.«01_k».proof.Proof.RefPoint
public import proofs.«01_k».proof.Proof.Rotation
public import Idealize.ShloMosaic.Lib.Pipeline.ValueKit
public import Idealize.ShloMosaic.Lib.Pointwise

@[expose] public section

set_option maxRecDepth 16384

noncomputable section

namespace Cert.ReferenceIdeal.Point

open Cert.ReferenceIdeal Cert.ReferenceIdeal.Gen Cert.Rotated
open Idealize.ShloMosaic Idealize.ShloMosaic.TcCoe Idealize.SL.Sem
open Idealize.ShloMosaic.Pipeline (Dat)

variable (m : (ℓ : Loc nD τ sig) → Buf (Elt Ideal) ℓ) (c : Dev nD)

/-- The rotated activations: each group of 128 lanes times the reference's table. -/
theorem V_v3 (b : Fin 8) (s : Fin 3072) (l : Fin 7168) :
    V m c main_v3 (ix3 b s l)
      = (∑ k : Fin 128, (show FVec Ideal S8x3072x7168 .bf16 from m ((c : Thread nD τ).loc main_arg0))
            (ix3 b s ⟨l / 128 * 128 + k, by omega⟩)
          * Ideal.ofBits .f32 (lit0 (S128x128.rowMajor (ix2 k ⟨l % 128, by omega⟩))) : EReal) := by
  unfold V; after_results
  generalize (lit0 : Fin 16384 → BitVec 32) = L
  generalize m (c, Proc.tc.devRef main_arg0) = X
  pointwise

/-- The reference's table, read at `(k, j)`. -/
theorem table_at (k j : Fin 128) : Ideal.ofBits .f32 (lit0 (S128x128.rowMajor (ix2 k j))) = rTable k j := by
  unfold rTable
  have h : (S128x128.rowMajor (ix2 k j)).val = k.val * 128 + j.val := Shape.rowMajor_val_two _
  rw [← h]

/-- Row `(b, s)` of the activations. -/
abbrev row (b : Fin 8) (s : Fin 3072) : Fin 7168 → EReal := fun l =>
  (show FVec Ideal S8x3072x7168 .bf16 from m ((c : Thread nD τ).loc main_arg0)) (ix3 b s l)

/-- The rotated activations, row by row. -/
theorem rotated (b : Fin 8) (s : Fin 3072) (l : Fin 7168) : V m c main_v3 (ix3 b s l) = rot (row m c b s) l := by
  refine Eq.trans (α := EReal) (V_v3 m c b s l) ?_
  unfold rot
  refine Finset.sum_congr rfl fun k _ => ?_
  exact congrArg (fun a => row m c b s _ * a) (table_at k _)

/-- Every window stays on its only block. -/
theorem idx : ∀ t : Fin cfg0.N, win0_0.index t = ![0, 0, 0] ∧ win0_1.index t = ![0, 0] ∧ win0_2.index t = ![0]
    ∧ win0_3.index t = ![0, 0, 0] ∧ win0_4.index t = ![0, 0, 0] ∧ win0_5.index t = ![0, 0, 0] :=
  (by decide +kernel : ∀ t : Fin grid0.N, _)

/-- The rotated activations are staged whole. -/
theorem iblk0 (t : Fin cfg0.N) : iblk m c 0 t = V m c main_v3 := by
  funext x
  blk_simp [iblk]
  blk_ext [idx t]

/-- The weights are staged whole. -/
theorem iblk1 (t : Fin cfg0.N) : iblk m c 1 t = V m c main_arg1 := by
  funext x
  blk_simp [iblk]
  blk_ext [idx t]

/-- The weight scales are staged whole. -/
theorem iblk2 (t : Fin cfg0.N) : iblk m c 2 t = V m c main_arg2 := by
  funext x
  blk_simp [iblk]
  blk_ext [idx t]

/-- The codes the reference leaves. -/
theorem arr4 : (dats m 0 c).arrAt 4 cfg0.N = k0_pay3 (F := Ideal) (V m c main_v3) := by
  refine (dats m 0 c).arrAt_eq_of_covers 4 _ (by decide +kernel) fun t hf y => ?_
  blk_simp
  rw [after0_4]; frame_out
  rw [iblk0]
  blk_ext [idx t]

/-- The row scales the reference leaves. -/
theorem arr5 : (dats m 0 c).arrAt 5 cfg0.N = k0_pay2 (F := Ideal) (V m c main_v3) := by
  refine (dats m 0 c).arrAt_eq_of_covers 5 _ (by decide +kernel) fun t hf y => ?_
  blk_simp
  rw [after0_5]; frame_out
  rw [iblk0]
  generalize k0_pay2 (F := Ideal) (V m c main_v3) = f
  blk_ext [idx t]

/-- The products the reference leaves. -/
theorem arr3 : (dats m 0 c).arrAt 3 cfg0.N = k0_pay4 (F := Ideal) (V m c main_v3) (m ((c : Thread nD τ).loc main_arg1)) (m ((c : Thread nD τ).loc main_arg2)) := by
  refine (dats m 0 c).arrAt_eq_of_covers 3 _ (by decide +kernel) fun t hf y => ?_
  blk_simp
  rw [after0_3]; frame_out
  rw [iblk0, iblk1, iblk2, V_main_arg1, V_main_arg2]
  generalize k0_pay4 (F := Ideal) (V m c main_v3) (m ((c : Thread nD τ).loc main_arg1)) (m ((c : Thread nD τ).loc main_arg2)) = f
  blk_ext [idx t]

/-- The code the reference leaves at `(b, s, l)`. -/
theorem code_value (b : Fin 8) (s : Fin 3072) (l : Fin 7168) :
    (dats m 0 c).arrAt 4 cfg0.N (ix3 b s l) = code (rot (row m c b s) l) (rowScale (rot (row m c b s))) := by
  rw [arr4, code_at, rotated]
  exact congrArg (fun f => code _ (rowScale f)) (funext fun l => rotated m c b s l)

/-- The row scale the reference leaves at `(b, s)`. -/
theorem scale_value (b : Fin 8) (s : Fin 3072) (z : Fin 1) :
    (dats m 0 c).arrAt 5 cfg0.N (ix3 b s z) = rowScale (rot (row m c b s)) := by
  rw [arr5, scale_at]
  exact congrArg rowScale (funext fun l => rotated m c b s l)

/-- The product the reference leaves at `(b, s, o)`. -/
theorem product_value (b : Fin 8) (s : Fin 3072) (o : Fin 20480) :
    (dats m 0 c).arrAt 3 cfg0.N (ix3 b s o)
      = product (rot (row m c b s))
          (fun k => (show IVec S20480x7168 8 from m ((c : Thread nD τ).loc main_arg1)) (ix2 o k))
          ((show FVec Ideal S20480 .f32 from m ((c : Thread nD τ).loc main_arg2)) (ix1 o)) := by
  rw [arr3, prod_at]
  exact congrArg (fun f => product f _ _) (funext fun l => rotated m c b s l)

end Cert.ReferenceIdeal.Point
-- ==== Proof.KerPoint.lean ====
/- The kernel's two bodies, read at one index. -/
module

public import proofs.«01_k».proof.Proof.Gen.KernelIdeal.Frame
public import proofs.«01_k».proof.Proof.Rotation
public import Idealize.ShloMosaic.Lib.Pipeline.ValueKit
public import Idealize.ShloMosaic.Lib.Pointwise

@[expose] public section

set_option maxRecDepth 16384

noncomputable section

namespace Cert.KernelIdeal.Point

open Cert.KernelIdeal Cert.KernelIdeal.Gen Cert.Rotated
open Idealize.ShloMosaic Idealize.ShloMosaic.TcCoe Idealize.SL.Sem
open Idealize.ShloMosaic.Pipeline (Dat)

/-! ## The first body: one block of 256 rows -/

/-- One rotated chunk. -/
theorem chunk_at (T C : FVec Ideal S256x256 .bf16) (r j : Fin 256) :
    k0_pay2 (F := Ideal) T C (ix2 r j) = (∑ k : Fin 256, C (ix2 r k) * T (ix2 k j)) * (cnorm : EReal) := by
  rw [← ofBits_norm]
  pointwise [k0_pay2]

/-- One rotated chunk as the kernel loads it: columns `off … off + 255` of a block of rows, the table beside it. -/
theorem piece_at (T : FVec Ideal S256x256 .bf16) (hT : ∀ k j : Fin 256, T (ix2 k j) = kTable k j)
    (X : FVec Ideal S256x7168 .bf16) (g off : ℕ) (hg : g < 28) (ho : off = 256 * g)
    (inb : ∀ a, ![0, off] a + ![256, 256] a ≤ S256x7168.size a) (r j : Fin 256) :
    k0_pay2 (F := Ideal) T (View.ld X (Rect.unit (s := S256x7168) ![0, off] ![256, 256] inb)) (ix2 r j)
      = rot (fun l => X (ix2 r l)) ⟨(256 * g + j.val) % 7168, Nat.mod_lt _ (by decide)⟩ := by
  subst ho
  rw [← kernel_rot (fun l => X (ix2 r l)) g hg j _ (Nat.mod_eq_of_lt (by omega))]
  refine (chunk_at _ _ _ _).trans ?_
  refine congrArg (fun a : EReal => a * (cnorm : EReal)) (Finset.sum_congr rfl fun k _ => ?_)
  rw [hT]
  refine congrArg (fun a : EReal => a * kTable k j) ?_
  refine View.ld_unit_apply_of (Val := Elt Ideal) (S := S256x7168) (e := .bf16) X _ _ _ _ _ fun a => ?_
  fin_cases a
  · show (r : ℕ) = 0 + r; omega
  · rfl

/-- One step of the running maximum. -/
theorem max_step (M : FVec Ideal S256x1 .f32) (Y : FVec Ideal S256x256 .f32) (y : Fin 7168 → EReal) (n : ℕ) (r : Fin 256)
    (hM : M (ix2 r 0) = runMax y n)
    (hY : ∀ j : Fin 256, Y (ix2 r j) = y ⟨(256 * n + j.val) % 7168, Nat.mod_lt _ (by decide)⟩) :
    maximumf M (shapeCast S256x1 (multiReduction (F := Ideal) .maximumf [1] S256 (absf Y) 0xFF800000#32 reduces_S256x256_S256 (.inl rfl) rfl)
      shapeCasts_S256_S256x1) (ix2 r 0) = runMax y (n + 1) := by
  unfold runMax chunkMax
  rw [← hM]
  simp only [← hY]
  pointwise
  rfl

/-- The running maximum after the first two chunks. -/
theorem max_first (T A B : FVec Ideal S256x256 .bf16) (y : Fin 7168 → EReal) (r : Fin 256)
    (hA : ∀ j : Fin 256, k0_pay2 (F := Ideal) T A (ix2 r j) = y ⟨(256 * 0 + j.val) % 7168, Nat.mod_lt _ (by decide)⟩)
    (hB : ∀ j : Fin 256, k0_pay2 (F := Ideal) T B (ix2 r j) = y ⟨(256 * 1 + j.val) % 7168, Nat.mod_lt _ (by decide)⟩) :
    k0_pay6 (F := Ideal) T A B (ix2 r 0) = runMax y 2 := by
  unfold k0_pay6
  refine max_step _ _ y 1 r (max_step _ _ y 0 r ?_ hA) hB
  exact Ideal.ofBits_zero_f32

/-- The running maximum over three more chunks. -/
theorem max_three (T : FVec Ideal S256x256 .bf16) (M : FVec Ideal S256x1 .f32) (Y : FVec Ideal S256x256 .f32)
    (A B : FVec Ideal S256x256 .bf16) (y : Fin 7168 → EReal) (n : ℕ) (r : Fin 256) (hM : M (ix2 r 0) = runMax y n)
    (hY : ∀ j : Fin 256, Y (ix2 r j) = y ⟨(256 * n + j.val) % 7168, Nat.mod_lt _ (by decide)⟩)
    (hA : ∀ j : Fin 256, k0_pay2 (F := Ideal) T A (ix2 r j) = y ⟨(256 * (n + 1) + j.val) % 7168, Nat.mod_lt _ (by decide)⟩)
    (hB : ∀ j : Fin 256, k0_pay2 (F := Ideal) T B (ix2 r j) = y ⟨(256 * (n + 2) + j.val) % 7168, Nat.mod_lt _ (by decide)⟩) :
    k0_pay13 (F := Ideal) T M Y A B (ix2 r 0) = runMax y (n + 3) := by
  unfold k0_pay13
  exact max_step _ _ y (n + 2) r (max_step _ _ y (n + 1) r (max_step _ _ y n r hM hY) hA) hB

/-- The row scale, from the running maximum over 26 chunks and the last two. -/
theorem scale_last (T : FVec Ideal S256x256 .bf16) (M : FVec Ideal S256x1 .f32) (Y : FVec Ideal S256x256 .f32)
    (A : FVec Ideal S256x256 .bf16) (y : Fin 7168 → EReal) (r : Fin 256) (hM : M (ix2 r 0) = runMax y 26)
    (hY : ∀ j : Fin 256, Y (ix2 r j) = y ⟨(256 * 26 + j.val) % 7168, Nat.mod_lt _ (by decide)⟩)
    (hA : ∀ j : Fin 256, k0_pay2 (F := Ideal) T A (ix2 r j) = y ⟨(256 * 27 + j.val) % 7168, Nat.mod_lt _ (by decide)⟩) :
    k0_pay67 (F := Ideal) T M Y A (ix2 r 0) = rowScale y := by
  unfold k0_pay67
  exact scale_select _ _ y ((max_step _ _ y 27 r (max_step _ _ y 26 r hM hY) hA).trans (runMax_all y))

/-- A row scale stretched along the row. -/
theorem scale_stretched (S : FVec Ideal S256x1 .f32) (r : Fin 256) (l : Fin 7168) :
    broadcastTo S256x7168 S broadcasts_S256x1_S256x7168 (ix2 r l) = S (ix2 r 0) := by pointwise

/-- One code, from the row scale and the rotated row read back. -/
theorem code_last (T : FVec Ideal S256x256 .bf16) (M : FVec Ideal S256x1 .f32) (Y : FVec Ideal S256x256 .f32)
    (A : FVec Ideal S256x256 .bf16) (R : FVec Ideal S256x7168 .f32) (r : Fin 256) (l : Fin 7168) (v s : EReal)
    (hS : k0_pay67 (F := Ideal) T M Y A (ix2 r 0) = s) (hR : R (ix2 r l) = v) :
    k0_pay1 (F := Ideal) (k0_pay68 (F := Ideal) T M Y A R) (ix2 r l) = code v s := by
  unfold k0_pay1 k0_pay68
  rw [← hS, ← hR, ← scale_stretched (k0_pay67 (F := Ideal) T M Y A) r l]
  exact code_select _ _ _

/-! The kernel's chunks are one function, its stores of them another, its running maxima a third. -/

theorem chunk_1 : k0_pay4 (F := Ideal) = k0_pay2 := rfl
theorem chunk_2 : k0_pay7 (F := Ideal) = k0_pay2 := rfl
theorem chunk_3 : k0_pay9 (F := Ideal) = k0_pay2 := rfl
theorem chunk_4 : k0_pay11 (F := Ideal) = k0_pay2 := rfl
theorem chunk_5 : k0_pay14 (F := Ideal) = k0_pay2 := rfl
theorem chunk_6 : k0_pay16 (F := Ideal) = k0_pay2 := rfl
theorem chunk_7 : k0_pay18 (F := Ideal) = k0_pay2 := rfl
theorem chunk_8 : k0_pay21 (F := Ideal) = k0_pay2 := rfl
theorem chunk_9 : k0_pay23 (F := Ideal) = k0_pay2 := rfl
theorem chunk_10 : k0_pay25 (F := Ideal) = k0_pay2 := rfl
theorem chunk_11 : k0_pay28 (F := Ideal) = k0_pay2 := rfl
theorem chunk_12 : k0_pay30 (F := Ideal) = k0_pay2 := rfl
theorem chunk_13 : k0_pay32 (F := Ideal) = k0_pay2 := rfl
theorem chunk_14 : k0_pay35 (F := Ideal) = k0_pay2 := rfl
theorem chunk_15 : k0_pay37 (F := Ideal) = k0_pay2 := rfl
theorem chunk_16 : k0_pay39 (F := Ideal) = k0_pay2 := rfl
theorem chunk_17 : k0_pay42 (F := Ideal) = k0_pay2 := rfl
theorem chunk_18 : k0_pay44 (F := Ideal) = k0_pay2 := rfl
theorem chunk_19 : k0_pay46 (F := Ideal) = k0_pay2 := rfl
theorem chunk_20 : k0_pay49 (F := Ideal) = k0_pay2 := rfl
theorem chunk_21 : k0_pay51 (F := Ideal) = k0_pay2 := rfl
theorem chunk_22 : k0_pay53 (F := Ideal) = k0_pay2 := rfl
theorem chunk_23 : k0_pay56 (F := Ideal) = k0_pay2 := rfl
theorem chunk_24 : k0_pay58 (F := Ideal) = k0_pay2 := rfl
theorem chunk_25 : k0_pay60 (F := Ideal) = k0_pay2 := rfl
theorem chunk_26 : k0_pay63 (F := Ideal) = k0_pay2 := rfl
theorem chunk_27 : k0_pay65 (F := Ideal) = k0_pay2 := rfl
theorem store_1 : k0_pay5 (F := Ideal) = k0_pay3 := rfl
theorem store_2 : k0_pay8 (F := Ideal) = k0_pay3 := rfl
theorem store_3 : k0_pay10 (F := Ideal) = k0_pay3 := rfl
theorem store_4 : k0_pay12 (F := Ideal) = k0_pay3 := rfl
theorem store_5 : k0_pay15 (F := Ideal) = k0_pay3 := rfl
theorem store_6 : k0_pay17 (F := Ideal) = k0_pay3 := rfl
theorem store_7 : k0_pay19 (F := Ideal) = k0_pay3 := rfl
theorem store_8 : k0_pay22 (F := Ideal) = k0_pay3 := rfl
theorem store_9 : k0_pay24 (F := Ideal) = k0_pay3 := rfl
theorem store_10 : k0_pay26 (F := Ideal) = k0_pay3 := rfl
theorem store_11 : k0_pay29 (F := Ideal) = k0_pay3 := rfl
theorem store_12 : k0_pay31 (F := Ideal) = k0_pay3 := rfl
theorem store_13 : k0_pay33 (F := Ideal) = k0_pay3 := rfl
theorem store_14 : k0_pay36 (F := Ideal) = k0_pay3 := rfl
theorem store_15 : k0_pay38 (F := Ideal) = k0_pay3 := rfl
theorem store_16 : k0_pay40 (F := Ideal) = k0_pay3 := rfl
theorem store_17 : k0_pay43 (F := Ideal) = k0_pay3 := rfl
theorem store_18 : k0_pay45 (F := Ideal) = k0_pay3 := rfl
theorem store_19 : k0_pay47 (F := Ideal) = k0_pay3 := rfl
theorem store_20 : k0_pay50 (F := Ideal) = k0_pay3 := rfl
theorem store_21 : k0_pay52 (F := Ideal) = k0_pay3 := rfl
theorem store_22 : k0_pay54 (F := Ideal) = k0_pay3 := rfl
theorem store_23 : k0_pay57 (F := Ideal) = k0_pay3 := rfl
theorem store_24 : k0_pay59 (F := Ideal) = k0_pay3 := rfl
theorem store_25 : k0_pay61 (F := Ideal) = k0_pay3 := rfl
theorem store_26 : k0_pay64 (F := Ideal) = k0_pay3 := rfl
theorem store_27 : k0_pay66 (F := Ideal) = k0_pay3 := rfl
theorem max_1 : k0_pay20 (F := Ideal) = k0_pay13 := rfl
theorem max_2 : k0_pay27 (F := Ideal) = k0_pay13 := rfl
theorem max_3 : k0_pay34 (F := Ideal) = k0_pay13 := rfl
theorem max_4 : k0_pay41 (F := Ideal) = k0_pay13 := rfl
theorem max_5 : k0_pay48 (F := Ideal) = k0_pay13 := rfl
theorem max_6 : k0_pay55 (F := Ideal) = k0_pay13 := rfl
theorem max_7 : k0_pay62 (F := Ideal) = k0_pay13 := rfl

/-- What the first body stores of a chunk is the chunk. -/
theorem store_at (T C : FVec Ideal S256x256 .bf16) (x : S256x256.Idx) :
    k0_pay3 (F := Ideal) T C x = k0_pay2 (F := Ideal) T C x := by
  unfold k0_pay3
  generalize k0_pay2 (F := Ideal) T C = Y
  pointwise

variable (V : (c : Dev nD) → (b : Ref sig .tc) → Buf (Elt Ideal) ((c : Thread nD τ).loc b)) (c : Dev nD)

end Cert.KernelIdeal.Point
-- ==== Proof.KerTile.lean ====
/- What the first body leaves at a grid point: its block's row scales and codes. -/
module

public import proofs.«01_k».proof.Proof.KerPoint

@[expose] public section

set_option maxRecDepth 16384

noncomputable section

namespace Cert.KernelIdeal.Point

open Cert.KernelIdeal Cert.KernelIdeal.Gen Cert.Rotated
open Idealize.ShloMosaic Idealize.ShloMosaic.TcCoe Idealize.SL.Sem
open Idealize.ShloMosaic.Pipeline (Dat)
variable (V : (c : Dev nD) → (b : Ref sig .tc) → Buf (Elt Ideal) ((c : Thread nD τ).loc b)) (c : Dev nD)

/-- A stored chunk holds, at each of its places in the block, that place's rotated element. -/
theorem stored_at (T : FVec Ideal S256x256 .bf16) (hT : ∀ k j : Fin 256, T (ix2 k j) = kTable k j)
    (X : FVec Ideal S256x7168 .bf16) (g off : ℕ) (hg : g < 28) (ho : off = 256 * g)
    (inb : ∀ a, ![0, off] a + ![256, 256] a ≤ S256x7168.size a)
    (x : (Rect.unit (s := S256x7168) ![0, off] ![256, 256] inb).shape.Idx) :
    k0_pay3 (F := Ideal) T (View.ld X (Rect.unit (s := S256x7168) ![0, off] ![256, 256] inb)) x
      = (fun i : S256x7168.Idx => rot (fun l => X (ix2 (i 0) l)) (i 1))
          ((Rect.unit (s := S256x7168) ![0, off] ![256, 256] inb).emb x) := by
  obtain ⟨r, j, rfl⟩ : ∃ (r j : Fin 256), x = ix2 r j := ⟨x 0, x 1, eq_ix2 x⟩
  refine (store_at _ _ _).trans ((piece_at T hT X g off hg ho inb r j).trans ?_)
  have e : (Rect.unit (s := S256x7168) ![0, off] ![256, 256] inb).emb (ix2 r j)
      = ix2 r ⟨(256 * g + j.val) % 7168, Nat.mod_lt _ (by decide)⟩ :=
    funext fun a => Fin.ext (by
      refine (Rect.idx_unit_val ..).trans ?_
      fin_cases a
      · show 0 + (r : ℕ) = r; omega
      · show off + (j : ℕ) = (256 * g + j.val) % 7168; omega)
  exact (congrArg (fun i : S256x7168.Idx => rot (fun l => X (ix2 (i 0) l)) (i 1)) e).symm

/-- The row scales the first body leaves. -/
theorem scale_tile (t : Fin cfg0.N) (r : Fin 256) (T : FVec Ideal S256x256 .bf16) (X : FVec Ideal S256x7168 .bf16)
    (eT : iblk0 V c 1 t = T) (eX : iblk0 V c 0 t = X)
    (hT : ∀ k j : Fin 256, T (ix2 k j) = kTable k j) :
    (outsAt0 V c t).2 (ix2 r 0) = rowScale (rot fun l => X (ix2 r l)) := by
  unfold outsAt0
  frame_out
  rw [eT, eX]
  simp only [chunk_1, chunk_2, chunk_3, chunk_4, chunk_5, chunk_6, chunk_7, chunk_8, chunk_9, chunk_10, chunk_11, chunk_12,
    chunk_13, chunk_14, chunk_15, chunk_16, chunk_17, chunk_18, chunk_19, chunk_20, chunk_21, chunk_22, chunk_23,
    chunk_24, chunk_25, chunk_26, chunk_27, max_1, max_2, max_3, max_4, max_5, max_6, max_7]
  refine scale_last T _ _ _ _ r ?_ ?_ ?_
  rotate_left
  · exact (piece_at T hT X 26 6656 (by decide) rfl _ r)
  · exact (piece_at T hT X 27 6912 (by decide) rfl _ r)
  refine max_three T _ _ _ _ _ 23 r ?_ ?_ ?_ ?_
  rotate_left
  · exact (piece_at T hT X 23 5888 (by decide) rfl _ r)
  · exact (piece_at T hT X 24 6144 (by decide) rfl _ r)
  · exact (piece_at T hT X 25 6400 (by decide) rfl _ r)
  refine max_three T _ _ _ _ _ 20 r ?_ ?_ ?_ ?_
  rotate_left
  · exact (piece_at T hT X 20 5120 (by decide) rfl _ r)
  · exact (piece_at T hT X 21 5376 (by decide) rfl _ r)
  · exact (piece_at T hT X 22 5632 (by decide) rfl _ r)
  refine max_three T _ _ _ _ _ 17 r ?_ ?_ ?_ ?_
  rotate_left
  · exact (piece_at T hT X 17 4352 (by decide) rfl _ r)
  · exact (piece_at T hT X 18 4608 (by decide) rfl _ r)
  · exact (piece_at T hT X 19 4864 (by decide) rfl _ r)
  refine max_three T _ _ _ _ _ 14 r ?_ ?_ ?_ ?_
  rotate_left
  · exact (piece_at T hT X 14 3584 (by decide) rfl _ r)
  · exact (piece_at T hT X 15 3840 (by decide) rfl _ r)
  · exact (piece_at T hT X 16 4096 (by decide) rfl _ r)
  refine max_three T _ _ _ _ _ 11 r ?_ ?_ ?_ ?_
  rotate_left
  · exact (piece_at T hT X 11 2816 (by decide) rfl _ r)
  · exact (piece_at T hT X 12 3072 (by decide) rfl _ r)
  · exact (piece_at T hT X 13 3328 (by decide) rfl _ r)
  refine max_three T _ _ _ _ _ 8 r ?_ ?_ ?_ ?_
  rotate_left
  · exact (piece_at T hT X 8 2048 (by decide) rfl _ r)
  · exact (piece_at T hT X 9 2304 (by decide) rfl _ r)
  · exact (piece_at T hT X 10 2560 (by decide) rfl _ r)
  refine max_three T _ _ _ _ _ 5 r ?_ ?_ ?_ ?_
  rotate_left
  · exact (piece_at T hT X 5 1280 (by decide) rfl _ r)
  · exact (piece_at T hT X 6 1536 (by decide) rfl _ r)
  · exact (piece_at T hT X 7 1792 (by decide) rfl _ r)
  refine max_three T _ _ _ _ _ 2 r ?_ ?_ ?_ ?_
  rotate_left
  · exact (piece_at T hT X 2 512 (by decide) rfl _ r)
  · exact (piece_at T hT X 3 768 (by decide) rfl _ r)
  · exact (piece_at T hT X 4 1024 (by decide) rfl _ r)
  refine max_first T _ _ _ r ?_ ?_
  · exact (piece_at T hT X 0 0 (by decide) rfl _ r)
  · exact (piece_at T hT X 1 256 (by decide) rfl _ r)

/-- The codes the first body leaves. -/
theorem code_tile (t : Fin cfg0.N) (r : Fin 256) (l : Fin 7168) (T : FVec Ideal S256x256 .bf16) (X : FVec Ideal S256x7168 .bf16)
    (eT : iblk0 V c 1 t = T) (eX : iblk0 V c 0 t = X)
    (hT : ∀ k j : Fin 256, T (ix2 k j) = kTable k j) :
    (outsAt0 V c t).1 (ix2 r l) = code (rot (fun l => X (ix2 r l)) l) (rowScale (rot fun l => X (ix2 r l))) := by
  have hs := scale_tile V c t r T X eT eX hT
  unfold outsAt0 at hs ⊢
  frame_out at hs
  frame_out
  rw [eT, eX] at hs ⊢
  simp only [chunk_1, chunk_2, chunk_3, chunk_4, chunk_5, chunk_6, chunk_7, chunk_8, chunk_9, chunk_10, chunk_11, chunk_12, chunk_13, chunk_14, chunk_15, chunk_16, chunk_17, chunk_18, chunk_19, chunk_20, chunk_21, chunk_22, chunk_23, chunk_24, chunk_25, chunk_26, chunk_27, store_1, store_2, store_3, store_4, store_5, store_6, store_7, store_8, store_9, store_10, store_11, store_12, store_13, store_14, store_15, store_16, store_17, store_18, store_19, store_20, store_21, store_22, store_23, store_24, store_25, store_26, store_27, max_1, max_2, max_3, max_4, max_5, max_6, max_7] at hs ⊢
  refine code_last T _ _ _ _ r l _ _ ?_ ?_
  · exact hs
  · rw [View.readCov_eq_canon']
    refine (View.canon_apply_of_pieces (fun i : S256x7168.Idx => rot (fun l => X (ix2 (i 0) l)) (i 1)) _ ?_ _ ?_).trans ?_
    · intro p hp
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl
      · exact fun x => stored_at T hT X 27 6912 (by decide) rfl _ x
      · exact fun x => stored_at T hT X 26 6656 (by decide) rfl _ x
      · exact fun x => stored_at T hT X 25 6400 (by decide) rfl _ x
      · exact fun x => stored_at T hT X 24 6144 (by decide) rfl _ x
      · exact fun x => stored_at T hT X 23 5888 (by decide) rfl _ x
      · exact fun x => stored_at T hT X 22 5632 (by decide) rfl _ x
      · exact fun x => stored_at T hT X 21 5376 (by decide) rfl _ x
      · exact fun x => stored_at T hT X 20 5120 (by decide) rfl _ x
      · exact fun x => stored_at T hT X 19 4864 (by decide) rfl _ x
      · exact fun x => stored_at T hT X 18 4608 (by decide) rfl _ x
      · exact fun x => stored_at T hT X 17 4352 (by decide) rfl _ x
      · exact fun x => stored_at T hT X 16 4096 (by decide) rfl _ x
      · exact fun x => stored_at T hT X 15 3840 (by decide) rfl _ x
      · exact fun x => stored_at T hT X 14 3584 (by decide) rfl _ x
      · exact fun x => stored_at T hT X 13 3328 (by decide) rfl _ x
      · exact fun x => stored_at T hT X 12 3072 (by decide) rfl _ x
      · exact fun x => stored_at T hT X 11 2816 (by decide) rfl _ x
      · exact fun x => stored_at T hT X 10 2560 (by decide) rfl _ x
      · exact fun x => stored_at T hT X 9 2304 (by decide) rfl _ x
      · exact fun x => stored_at T hT X 8 2048 (by decide) rfl _ x
      · exact fun x => stored_at T hT X 7 1792 (by decide) rfl _ x
      · exact fun x => stored_at T hT X 6 1536 (by decide) rfl _ x
      · exact fun x => stored_at T hT X 5 1280 (by decide) rfl _ x
      · exact fun x => stored_at T hT X 4 1024 (by decide) rfl _ x
      · exact fun x => stored_at T hT X 3 768 (by decide) rfl _ x
      · exact fun x => stored_at T hT X 2 512 (by decide) rfl _ x
      · exact fun x => stored_at T hT X 1 256 (by decide) rfl _ x
      · exact fun x => stored_at T hT X 0 0 (by decide) rfl _ x
    · refine View.cover_of_tiledL _ ![256, 256] ?_ _
      sl_kernel_rfl
    · have e0 : (Rect.unit (s := S256x7168) ![0, 0] ![256, 7168] inb_S256x7168_S256x7168_0_0).idx (ix2 r l) = ix2 r l :=
        funext fun a => Fin.ext (by
          rw [Rect.idx_unit_val]
          fin_cases a
          · show 0 + (r : ℕ) = r; omega
          · show 0 + (l : ℕ) = l; omega)
      exact congrArg (fun i : S256x7168.Idx => rot (fun l => X (ix2 (i 0) l)) (i 1)) e0

end Cert.KernelIdeal.Point
-- ==== Proof.KerCodes.lean ====
/- The two arrays the kernel's first region leaves. -/
module

public import proofs.«01_k».proof.Proof.KerTile

@[expose] public section

set_option maxRecDepth 16384

noncomputable section

namespace Cert.KernelIdeal.Point

open Cert.KernelIdeal Cert.KernelIdeal.Gen Cert.Rotated
open Idealize.ShloMosaic Idealize.ShloMosaic.TcCoe Idealize.SL.Sem
open Idealize.ShloMosaic.Pipeline (Dat)
variable (V : (c : Dev nD) → (b : Ref sig .tc) → Buf (Elt Ideal) ((c : Thread nD τ).loc b)) (c : Dev nD)

/-! ## The first region: codes and row scales -/

/-- Where each window stands at grid point `t`. -/
theorem idx0 : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

/-- The grid has 96 points. -/
theorem point_lt (t : Fin cfg0.N) : t.val < 96 := lt_of_lt_of_eq t.isLt (by decide +kernel : grid0.N = 96)

/-- The sign table as the first region finds it. -/
abbrev signs : FVec Ideal S256x256 .bf16 := V c main_cst
/-- The activations as the first region finds them. -/
abbrev acts : FVec Ideal S24576x7168 .bf16 := V c main_v0
/-- The staged sign table. -/
abbrev signsBlk (t : Fin cfg0.N) : FVec Ideal S256x256 .bf16 := iblk0 V c 1 t
/-- The staged rows. -/
abbrev actsBlk (t : Fin cfg0.N) : FVec Ideal S256x7168 .bf16 := iblk0 V c 0 t
/-- Row `R` of the activations, rotated. -/
abbrev rotatedRow (R : Fin 24576) : Fin 7168 → EReal := rot fun l => acts V c (ix2 R l)

/-- The sign table is staged whole. -/
theorem signs_block (t : Fin cfg0.N) (k j : Fin 256) : signsBlk V c t (ix2 k j) = signs V c (ix2 k j) := by
  unfold signsBlk signs
  blk_simp [iblk0]
  blk_ext [idx0 t]

/-- Point `t` stages rows `256 t … 256 t + 255`. -/
theorem acts_block (t : Fin cfg0.N) (r : Fin 256) (l : Fin 7168) :
    actsBlk V c t (ix2 r l) = acts V c (ix2 ⟨t.val * 256 + r.val, by have := point_lt t; omega⟩ l) := by
  unfold actsBlk acts
  blk_simp [iblk0]
  blk_ext [idx0 t]

/-- The codes the first region leaves. -/
theorem codes_array (hT : ∀ k j : Fin 256, signs V c (ix2 k j) = kTable k j) :
    (dat0 V c).arrAt 2 cfg0.N
      = fun i : S24576x7168.Idx => code (rotatedRow V c (i 0) (i 1)) (rowScale (rotatedRow V c (i 0))) := by
  refine (dat0 V c).arrAt_eq_of_covers 2 _ (by decide +kernel) fun t hf y => ?_
  blk_simp
  rw [after0_2]
  obtain ⟨r, l, rfl⟩ : ∃ (r : Fin 256) (l : Fin 7168), y = (ix2 r l : S256x7168.Idx) := ⟨y 0, y 1, eq_ix2 (y : S256x7168.Idx)⟩
  have e : (win0_2.blk t).view.emb (ix2 r l : S256x7168.Idx)
      = (ix2 ⟨t.val * 256 + r.val, by have := point_lt t; omega⟩ l : S24576x7168.Idx) := by blk_ext [idx0 t]
  have h := code_tile V c t r l (signsBlk V c t) (actsBlk V c t) rfl rfl fun k j => (signs_block V c t k j).trans (hT k j)
  simp only [acts_block] at h
  refine h.trans ?_
  exact (congrArg (fun i : S24576x7168.Idx => code (rotatedRow V c (i 0) (i 1)) (rowScale (rotatedRow V c (i 0)))) e).symm

/-- The row scales the first region leaves. -/
theorem scales_array (hT : ∀ k j : Fin 256, signs V c (ix2 k j) = kTable k j) :
    (dat0 V c).arrAt 3 cfg0.N = fun i : S24576x1.Idx => rowScale (rotatedRow V c (i 0)) := by
  refine (dat0 V c).arrAt_eq_of_covers 3 _ (by decide +kernel) fun t hf y => ?_
  blk_simp
  rw [after0_3]
  obtain ⟨r, rfl⟩ : ∃ r : Fin 256, y = (ix2 r 0 : S256x1.Idx) :=
    ⟨y 0, (eq_ix2 (y : S256x1.Idx)).trans (congrArg (fun z : Fin 1 => (ix2 (y 0) z : S256x1.Idx)) (Subsingleton.elim _ _))⟩
  have e : (win0_3.blk t).view.emb (ix2 r 0 : S256x1.Idx)
      = (ix2 ⟨t.val * 256 + r.val, by have := point_lt t; omega⟩ 0 : S24576x1.Idx) := by blk_ext [idx0 t]
  have h := scale_tile V c t r (signsBlk V c t) (actsBlk V c t) rfl rfl fun k j => (signs_block V c t k j).trans (hT k j)
  simp only [acts_block] at h
  refine h.trans ?_
  exact (congrArg (fun i : S24576x1.Idx => rowScale (rotatedRow V c (i 0))) e).symm

end Cert.KernelIdeal.Point
-- ==== Proof.KerProduct.lean ====
/- The kernel's second body and the array its region leaves. -/
module

public import proofs.«01_k».proof.Proof.KerPoint

@[expose] public section

set_option maxRecDepth 16384

noncomputable section

namespace Cert.KernelIdeal.Point

open Cert.KernelIdeal Cert.KernelIdeal.Gen Cert.Rotated
open Idealize.ShloMosaic Idealize.ShloMosaic.TcCoe Idealize.SL.Sem
open Idealize.ShloMosaic.Pipeline (Dat)
variable (V : (c : Dev nD) → (b : Ref sig .tc) → Buf (Elt Ideal) ((c : Thread nD τ).loc b)) (c : Dev nD)

/-! ## The second region: the product -/

/-- The integer product of one tile of codes with one tile of weights. -/
theorem dot_tile (a w : IVec S1024x7168 8) (ha : ∀ i, (a i).toInt.natAbs ≤ 7) (R o : Fin 1024) :
    matmulI8 IntMxuNumerics.v7x dot_S1024x7168_S1024x7168_S1024x1024_1_1_0_0_n_n a w (constantI S1024x1024 32 0#32) (ix2 R o)
      = BitVec.ofInt 32 (∑ k : Fin 7168, (a (ix2 R k)).toInt * (w (ix2 o k)).toInt) := by
  refine matmulI8_codes _ (a := 1) rfl rfl _ _ _ _ rfl ha (fun k => ix2 R k) (fun k => ix2 o k) ?_ ?_
  · intro k; funext x; fin_cases x <;> rfl
  · intro k; funext x; fin_cases x <;> rfl

/-- A cast of the codes to their own shape. -/
theorem same_codes (a : IVec S1024x7168 8) : shapeCast S1024x7168 a shapeCasts_S1024x7168_S1024x7168 = a := by
  funext i
  obtain ⟨R, k, rfl⟩ : ∃ (R : Fin 1024) (k : Fin 7168), i = ix2 R k := ⟨i 0, i 1, eq_ix2 i⟩
  pointwise

/-- Row scales stretched over a tile. -/
theorem rows_stretched (s : FVec Ideal S1024x1 .f32) (R o : Fin 1024) :
    broadcastTo S1024x1024 (shapeCast S1024x1 s shapeCasts_S1024x1_S1024x1) broadcasts_S1024x1_S1024x1024 (ix2 R o)
      = s (ix2 R 0) := by pointwise

/-- Weight scales stretched over a tile. -/
theorem cols_stretched (s : FVec Ideal S1x1024 .f32) (R o : Fin 1024) :
    broadcastTo S1024x1024 (shapeCast S1x1024 s shapeCasts_S1x1024_S1x1024) broadcasts_S1x1024_S1024x1024 (ix2 R o)
      = s (ix2 0 o) := by pointwise

/-- A tile's rows as 128 groups of 8. -/
theorem tile_cast (Z : FVec Ideal S1024x1024 .f32) (p : Fin 128) (q : Fin 8) (o : Fin 1024) :
    truncf .bf16 (shapeCast S128x8x1024 Z shapeCasts_S1024x1024_S128x8x1024) bitsLt_bf16_f32 (ix3 p q o)
      = Z (ix2 ⟨p.val * 8 + q.val, by omega⟩ o) := by pointwise

/-- One product of the second body. -/
theorem product_tile (a w : IVec S1024x7168 8) (s : FVec Ideal S1024x1 .f32) (ws : FVec Ideal S1x1024 .f32)
    (ha : ∀ i, (a i).toInt.natAbs ≤ 7) (p : Fin 128) (q : Fin 8) (o : Fin 1024) (y : Fin 7168 → EReal)
    (hy : ∀ k, a (ix2 ⟨p.val * 8 + q.val, by omega⟩ k) = code (y k) (rowScale y))
    (hs : s (ix2 ⟨p.val * 8 + q.val, by omega⟩ 0) = rowScale y) :
    k1_pay1 (F := Ideal) a w s ws (ix3 p q o) = product y (fun k => w (ix2 o k)) (ws (ix2 0 o)) := by
  unfold k1_pay1
  rw [same_codes a]
  refine (tile_cast _ p q o).trans ?_
  have hR : p.val * 8 + q.val < 1024 := by omega
  have h := product_select (S := S1024x1024)
    (matmulI8 IntMxuNumerics.v7x dot_S1024x7168_S1024x7168_S1024x1024_1_1_0_0_n_n a w (constantI S1024x1024 32 0#32))
    (broadcastTo S1024x1024 (shapeCast S1024x1 s shapeCasts_S1024x1_S1024x1) broadcasts_S1024x1_S1024x1024)
    (broadcastTo S1024x1024 (shapeCast S1x1024 ws shapeCasts_S1x1024_S1x1024) broadcasts_S1x1024_S1024x1024)
    (ix2 ⟨p.val * 8 + q.val, hR⟩ o) y (fun k => w (ix2 o k)) (ws (ix2 0 o)) bitsLt_bf16_f32
    (by rw [dot_tile a w ha]; simp only [hy]) ((rows_stretched s _ o).trans hs) (cols_stretched ws _ o)
  exact h

/-- Where each window stands at grid point `t`. -/
theorem idx1 : ∀ t : Fin cfg1.N, win1_0.index t = ![t.val / 20, 0] ∧ win1_1.index t = ![t.val % 20, 0] ∧ win1_2.index t = ![t.val / 20, 0]
    ∧ win1_3.index t = ![0, t.val % 20] ∧ win1_4.index t = ![t.val / 20, 0, t.val % 20] := (by decide +kernel : ∀ t : Fin grid1.N, _)

/-- The grid has 480 points. -/
theorem point1_lt (t : Fin cfg1.N) : t.val < 480 := lt_of_lt_of_eq t.isLt (by decide +kernel : grid1.N = 480)

/-- The codes as the second region finds them. -/
abbrev codesIn : IVec S24576x7168 8 := V c main_v1_0
/-- The row scales as the second region finds them. -/
abbrev scalesIn : FVec Ideal S24576x1 .f32 := V c main_v1_1
/-- The weights as the second region finds them. -/
abbrev weightsIn : IVec S20480x7168 8 := V c main_arg1
/-- The weight scales as the second region finds them. -/
abbrev weightScalesIn : FVec Ideal S1x20480 .f32 := V c main_v2

/-- The staged codes. -/
abbrev codesBlk (t : Fin cfg1.N) : IVec S1024x7168 8 := iblk1 V c 0 t
/-- The staged weights. -/
abbrev weightsBlk (t : Fin cfg1.N) : IVec S1024x7168 8 := iblk1 V c 1 t
/-- The staged row scales. -/
abbrev scalesBlk (t : Fin cfg1.N) : FVec Ideal S1024x1 .f32 := iblk1 V c 2 t
/-- The staged weight scales. -/
abbrev weightScalesBlk (t : Fin cfg1.N) : FVec Ideal S1x1024 .f32 := iblk1 V c 3 t

/-- Point `t` stages 1024 rows of codes. -/
theorem codes_block (t : Fin cfg1.N) (R : Fin 1024) (k : Fin 7168) :
    codesBlk V c t (ix2 R k) = codesIn V c (ix2 ⟨t.val / 20 * 1024 + R.val, by have := point1_lt t; omega⟩ k) := by
  unfold codesBlk codesIn
  blk_simp [iblk1]
  blk_ext [idx1 t]

/-- Point `t` stages 1024 columns of the product's weights. -/
theorem weights_block (t : Fin cfg1.N) (o : Fin 1024) (k : Fin 7168) :
    weightsBlk V c t (ix2 o k) = weightsIn V c (ix2 ⟨t.val % 20 * 1024 + o.val, by omega⟩ k) := by
  unfold weightsBlk weightsIn
  blk_simp [iblk1]
  blk_ext [idx1 t]

/-- Point `t` stages its rows' scales. -/
theorem scales_block (t : Fin cfg1.N) (R : Fin 1024) :
    scalesBlk V c t (ix2 R 0) = scalesIn V c (ix2 ⟨t.val / 20 * 1024 + R.val, by have := point1_lt t; omega⟩ 0) := by
  unfold scalesBlk scalesIn
  blk_simp [iblk1]
  blk_ext [idx1 t]

/-- Point `t` stages its columns' scales. -/
theorem weightScales_block (t : Fin cfg1.N) (o : Fin 1024) :
    weightScalesBlk V c t (ix2 0 o) = weightScalesIn V c (ix2 0 ⟨t.val % 20 * 1024 + o.val, by omega⟩) := by
  unfold weightScalesBlk weightScalesIn
  blk_simp [iblk1]
  blk_ext [idx1 t]

/-- Row `8 p + q` of the flat rows. -/
abbrev flatRow (p : Fin 3072) (q : Fin 8) : Fin 24576 := ⟨p.val * 8 + q.val, by omega⟩

/-- The products the second region leaves, when it finds the codes and scales of rows `Y`. -/
theorem products_array (Y : Fin 24576 → Fin 7168 → EReal)
    (hC : ∀ R k, codesIn V c (ix2 R k) = code (Y R k) (rowScale (Y R)))
    (hS : ∀ R, scalesIn V c (ix2 R 0) = rowScale (Y R)) :
    (dat1 V c).arrAt 4 cfg1.N
      = fun i : S3072x8x20480.Idx => product (Y (flatRow (i 0) (i 1))) (fun k => weightsIn V c (ix2 (i 2) k))
          (weightScalesIn V c (ix2 0 (i 2))) := by
  refine (dat1 V c).arrAt_eq_of_covers 4 _ (by decide +kernel) fun t hf y => ?_
  blk_simp
  rw [after1_4]; frame_out
  obtain ⟨p, q, o, rfl⟩ : ∃ (p : Fin 128) (q : Fin 8) (o : Fin 1024), y = (ix3 p q o : S128x8x1024.Idx) :=
    ⟨y 0, y 1, y 2, eq_ix3 (y : S128x8x1024.Idx)⟩
  have ht := point1_lt t
  have e : (win1_4.blk t).view.emb (ix3 p q o : S128x8x1024.Idx)
      = (ix3 ⟨t.val / 20 * 128 + p.val, by omega⟩ q ⟨t.val % 20 * 1024 + o.val, by omega⟩ : S3072x8x20480.Idx) := by
    blk_ext [idx1 t]
  have er : (⟨t.val / 20 * 1024 + (p.val * 8 + q.val), by omega⟩ : Fin 24576) = flatRow ⟨t.val / 20 * 128 + p.val, by omega⟩ q :=
    Fin.ext (by show t.val / 20 * 1024 + (p.val * 8 + q.val) = (t.val / 20 * 128 + p.val) * 8 + q.val; omega)
  have h := product_tile (codesBlk V c t) (weightsBlk V c t) (scalesBlk V c t) (weightScalesBlk V c t)
    (fun i => by
      obtain ⟨R, k, rfl⟩ : ∃ (R : Fin 1024) (k : Fin 7168), i = ix2 R k := ⟨i 0, i 1, eq_ix2 i⟩
      rw [codes_block, hC]
      exact natAbs_code_le _ _)
    p q o (Y (flatRow ⟨t.val / 20 * 128 + p.val, by omega⟩ q))
    (fun k => by rw [codes_block, hC]; exact congrArg (fun R => code (Y R k) (rowScale (Y R))) er)
    (by rw [scales_block, hS]; exact congrArg (fun R => rowScale (Y R)) er)
  simp only [weights_block, weightScales_block] at h
  refine h.trans ?_
  exact (congrArg (fun i : S3072x8x20480.Idx => product (Y (flatRow (i 0) (i 1))) (fun k => weightsIn V c (ix2 (i 2) k))
    (weightScalesIn V c (ix2 0 (i 2)))) e).symm

end Cert.KernelIdeal.Point
-- ==== Proof.KerValue.lean ====
/- The kernel's three results, entry by entry. -/
module

public import proofs.«01_k».proof.Proof.KerCodes
public import proofs.«01_k».proof.Proof.KerProduct

@[expose] public section

set_option maxRecDepth 16384

noncomputable section

namespace Cert.KernelIdeal.Point

open Cert.KernelIdeal Cert.KernelIdeal.Gen Cert.Rotated
open Idealize.ShloMosaic Idealize.ShloMosaic.TcCoe Idealize.SL.Sem
open Idealize.ShloMosaic.Pipeline (Dat)
variable (m : (ℓ : Loc nD τ sig) → Buf (Elt Ideal) ℓ) (ρ : Dev nD → PrngReg)

/-! ## The buffers the host operations leave -/

/-- Row `3072 b + s` of the flat rows. -/
abbrev tokenRow (b : Fin 8) (s : Fin 3072) : Fin 24576 := ⟨b.val * 3072 + s.val, by omega⟩

/-- The products, reshaped. -/
theorem v4_at (W : Valuation τ sig (Elt Ideal)) (b : Fin 8) (s : Fin 3072) (o : Fin 20480) :
    (show FVec Ideal S8x3072x20480 .bf16 from StableHlo.after hostOps2 W (Proc.devRef .tc main_v4)) (ix3 b s o)
      = (show FVec Ideal S3072x8x20480 .bf16 from W (Proc.devRef .tc main_v3))
          (ix3 ⟨(b.val * 3072 + s.val) / 8, by omega⟩ ⟨(b.val * 3072 + s.val) % 8, by omega⟩ o) := by
  after_results
  generalize W (Proc.devRef .tc main_v3) = X
  pointwise
  exact congrArg₂ (fun p q => (show FVec Ideal S3072x8x20480 .bf16 from X) (ix3 p q o))
    (Fin.ext (by show b.val * 384 + s.val / 8 = (b.val * 3072 + s.val) / 8; omega))
    (Fin.ext (by show s.val % 8 = (b.val * 3072 + s.val) % 8; omega))

/-- The codes, reshaped. -/
theorem v5_at (W : Valuation τ sig (Elt Ideal)) (b : Fin 8) (s : Fin 3072) (l : Fin 7168) :
    (show IVec S8x3072x7168 8 from StableHlo.after hostOps2 W (Proc.devRef .tc main_v5)) (ix3 b s l)
      = (show IVec S24576x7168 8 from W (Proc.devRef .tc main_v1_0)) (ix2 (tokenRow b s) l) := by
  after_results
  generalize W (Proc.devRef .tc main_v1_0) = X
  pointwise

/-- The row scales, reshaped. -/
theorem v6_at (W : Valuation τ sig (Elt Ideal)) (b : Fin 8) (s : Fin 3072) (z : Fin 1) :
    (show FVec Ideal S8x3072x1 .f32 from StableHlo.after hostOps2 W (Proc.devRef .tc main_v6)) (ix3 b s z)
      = (show FVec Ideal S24576x1 .f32 from W (Proc.devRef .tc main_v1_1)) (ix2 (tokenRow b s) 0) := by
  after_results
  generalize W (Proc.devRef .tc main_v1_1) = X
  pointwise

/-- The weight scales, as one row. -/
theorem v2_at (W : Valuation τ sig (Elt Ideal)) (o : Fin 20480) :
    (show FVec Ideal S1x20480 .f32 from StableHlo.after hostOps1 W (Proc.devRef .tc main_v2)) (ix2 0 o)
      = (show FVec Ideal S20480 .f32 from W (Proc.devRef .tc main_arg2)) (ix1 o) := by
  after_results
  generalize W (Proc.devRef .tc main_arg2) = X
  pointwise

/-- The rows, flattened. -/
theorem v0_at (W : Valuation τ sig (Elt Ideal)) (b : Fin 8) (s : Fin 3072) (l : Fin 7168) :
    (show FVec Ideal S24576x7168 .bf16 from StableHlo.after hostOps0 W (Proc.devRef .tc main_v0)) (ix2 (tokenRow b s) l)
      = (show FVec Ideal S8x3072x7168 .bf16 from W (Proc.devRef .tc main_arg0)) (ix3 b s l) := by
  after_results
  generalize (lit0 : Fin 65536 → BitVec 16) = L
  generalize W (Proc.devRef .tc main_arg0) = X
  pointwise
  exact congrArg₂ (fun p q => (show FVec Ideal S8x3072x7168 .bf16 from X) (ix3 p q l))
    (Fin.ext (by show (b.val * 3072 + s.val) / 3072 = b.val; omega))
    (Fin.ext (by show (b.val * 3072 + s.val) % 3072 = s.val; omega))

/-- The staged table of signs. -/
theorem signs_at (c : Dev nD) (k j : Fin 256) : signs (V1 m ρ) c (ix2 k j) = kTable k j := by
  have h : (S256x256.rowMajor (ix2 k j)).val = k.val * 256 + j.val := Shape.rowMajor_val_two _
  unfold kTable
  rw [← h]
  rfl

/-- One row of activations as launched. -/
abbrev token (c : Dev nD) (b : Fin 8) (s : Fin 3072) : Fin 7168 → EReal :=
  fun l => (show FVec Ideal S8x3072x7168 .bf16 from m ((c : Thread nD τ).loc main_arg0)) (ix3 b s l)

/-- A rotated row of the first region. -/
theorem rotated_token (c : Dev nD) (b : Fin 8) (s : Fin 3072) :
    rotatedRow (V1 m ρ) c (tokenRow b s) = rot (token m c b s) :=
  congrArg rot (funext fun l => v0_at (W0 m ρ c) b s l)

/-- The codes after the first region. -/
theorem W2_codes (c : Dev nD) :
    (show IVec S24576x7168 8 from W2 m ρ c (Proc.devRef .tc main_v1_0))
      = fun i => code (rotatedRow (V1 m ρ) c (i 0) (i 1)) (rowScale (rotatedRow (V1 m ρ) c (i 0))) :=
  (W2_arr m ρ c 2).trans (codes_array (V1 m ρ) c (signs_at m ρ c))

/-- The row scales after the first region. -/
theorem W2_scales (c : Dev nD) :
    (show FVec Ideal S24576x1 .f32 from W2 m ρ c (Proc.devRef .tc main_v1_1))
      = fun i => rowScale (rotatedRow (V1 m ρ) c (i 0)) :=
  (W2_arr m ρ c 3).trans (scales_array (V1 m ρ) c (signs_at m ρ c))

/-- The second region finds the codes of the first. -/
theorem W3_codes (c : Dev nD) : W3 m ρ c (Proc.devRef .tc main_v1_0) = W2 m ρ c (Proc.devRef .tc main_v1_0) :=
  W3_of m ρ c main_v1_0 (by decide)
/-- The second region finds the row scales of the first. -/
theorem W3_scales (c : Dev nD) : W3 m ρ c (Proc.devRef .tc main_v1_1) = W2 m ρ c (Proc.devRef .tc main_v1_1) :=
  W3_of m ρ c main_v1_1 (by decide)
/-- The second region keeps the codes. -/
theorem W4_codes (c : Dev nD) : W4 m ρ c (Proc.devRef .tc main_v1_0) = W3 m ρ c (Proc.devRef .tc main_v1_0) :=
  W4_of m ρ c main_v1_0 (by decide +kernel)
/-- The second region keeps the row scales. -/
theorem W4_scales (c : Dev nD) : W4 m ρ c (Proc.devRef .tc main_v1_1) = W3 m ρ c (Proc.devRef .tc main_v1_1) :=
  W4_of m ρ c main_v1_1 (by decide +kernel)

/-- The kernel's codes. -/
theorem code_result (c : Dev nD) (b : Fin 8) (s : Fin 3072) (l : Fin 7168) :
    (show IVec S8x3072x7168 8 from W5 m ρ c (Proc.devRef .tc main_v5)) (ix3 b s l)
      = code (rot (token m c b s) l) (rowScale (rot (token m c b s))) := by
  refine (v5_at (W4 m ρ c) b s l).trans ?_
  refine (congrFun (((W4_codes m ρ c).trans (W3_codes m ρ c)).trans (W2_codes m ρ c)) (ix2 (tokenRow b s) l)).trans ?_
  exact congrArg (fun y : Fin 7168 → EReal => code (y l) (rowScale y)) (rotated_token m ρ c b s)

/-- The kernel's row scales. -/
theorem scale_result (c : Dev nD) (b : Fin 8) (s : Fin 3072) (z : Fin 1) :
    (show FVec Ideal S8x3072x1 .f32 from W5 m ρ c (Proc.devRef .tc main_v6)) (ix3 b s z)
      = rowScale (rot (token m c b s)) := by
  refine (v6_at (W4 m ρ c) b s z).trans ?_
  refine (congrFun (((W4_scales m ρ c).trans (W3_scales m ρ c)).trans (W2_scales m ρ c)) (ix2 (tokenRow b s) 0)).trans ?_
  exact congrArg rowScale (rotated_token m ρ c b s)

/-- The weights the second region finds. -/
theorem weights_found (c : Dev nD) : weightsIn (V3 m ρ) c = m ((c : Thread nD τ).loc main_arg1) :=
  W3_args m ρ c main_arg1 (by decide)

/-- The weight scales the second region finds. -/
theorem weightScales_found (c : Dev nD) (o : Fin 20480) :
    weightScalesIn (V3 m ρ) c (ix2 0 o) = (show FVec Ideal S20480 .f32 from m ((c : Thread nD τ).loc main_arg2)) (ix1 o) :=
  (v2_at (W2 m ρ c) o).trans (congrFun (W2_args m ρ c main_arg2 (by decide)) (ix1 o))

/-- The products after the second region. -/
theorem W4_products (c : Dev nD) :
    (show FVec Ideal S3072x8x20480 .bf16 from W4 m ρ c (Proc.devRef .tc main_v3))
      = fun i => product (rotatedRow (V1 m ρ) c (flatRow (i 0) (i 1))) (fun k => weightsIn (V3 m ρ) c (ix2 (i 2) k))
          (weightScalesIn (V3 m ρ) c (ix2 0 (i 2))) :=
  (W4_arr m ρ c 4).trans (products_array (V3 m ρ) c (rotatedRow (V1 m ρ) c)
    (fun R k => congrFun ((W3_codes m ρ c).trans (W2_codes m ρ c)) (ix2 R k))
    (fun R => congrFun ((W3_scales m ρ c).trans (W2_scales m ρ c)) (ix2 R 0)))

/-- The kernel's products. -/
theorem product_result (c : Dev nD) (b : Fin 8) (s : Fin 3072) (o : Fin 20480) :
    (show FVec Ideal S8x3072x20480 .bf16 from W5 m ρ c (Proc.devRef .tc main_v4)) (ix3 b s o)
      = product (rot (token m c b s)) (fun k => (show IVec S20480x7168 8 from m ((c : Thread nD τ).loc main_arg1)) (ix2 o k))
          ((show FVec Ideal S20480 .f32 from m ((c : Thread nD τ).loc main_arg2)) (ix1 o)) := by
  refine (v4_at (W4 m ρ c) b s o).trans ?_
  refine (congrFun (W4_products m ρ c) (ix3 ⟨(b.val * 3072 + s.val) / 8, by omega⟩ ⟨(b.val * 3072 + s.val) % 8, by omega⟩ o)).trans ?_
  have e : flatRow ⟨(b.val * 3072 + s.val) / 8, by omega⟩ ⟨(b.val * 3072 + s.val) % 8, by omega⟩ = tokenRow b s :=
    Fin.ext (by show (b.val * 3072 + s.val) / 8 * 8 + (b.val * 3072 + s.val) % 8 = b.val * 3072 + s.val; omega)
  have e1 : rotatedRow (V1 m ρ) c (flatRow ⟨(b.val * 3072 + s.val) / 8, by omega⟩ ⟨(b.val * 3072 + s.val) % 8, by omega⟩)
      = rot (token m c b s) := (congrArg (rotatedRow (V1 m ρ) c) e).trans (rotated_token m ρ c b s)
  have e2 : (fun k : Fin 7168 => weightsIn (V3 m ρ) c (ix2 o k))
      = fun k => (show IVec S20480x7168 8 from m ((c : Thread nD τ).loc main_arg1)) (ix2 o k) :=
    funext fun k => congrFun (weights_found m ρ c) (ix2 o k)
  exact congr (congr (congrArg product e1) e2) (weightScales_found m ρ c o)

end Cert.KernelIdeal.Point

end
-- ==== Proof.KerRun.lean ====
/- The kernel's run, with the three result buffers named. -/
module

public import proofs.«01_k».proof.Proof.KerPoint

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the three results at the contents of the last boundary, and the arguments as launched. -/
theorem run_buffers : θ_run defs (onTc (τ := τ) (main (F := Ideal))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v4 (by decide)), h c _ (mem_uc main_v5 (by decide)), h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Gen

end
-- ==== Proof.Result.lean ====
/- Both programs' runs side by side: equal results from equal arguments. -/
module

public import proofs.«01_k».proof.Defs
public import proofs.«01_k».proof.Proof.RefValue
public import proofs.«01_k».proof.Proof.KerValue
public import proofs.«01_k».proof.Proof.KerRun

@[expose] public section

set_option maxRecDepth 16384

noncomputable section

namespace Cert.Rotated

open Idealize.ShloMosaic Idealize.ShloMosaic.TcCoe Idealize.SL.Sem
open Cert.KernelIdeal.Gen (W5)

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)
  (h0 : m' ((c.tc : Thread ReferenceIdeal.nD ReferenceIdeal.τ).loc ReferenceIdeal.main_arg0)
    = m ((c.tc : Thread KernelIdeal.nD KernelIdeal.τ).loc KernelIdeal.main_arg0))
  (h1 : m' ((c.tc : Thread ReferenceIdeal.nD ReferenceIdeal.τ).loc ReferenceIdeal.main_arg1)
    = m ((c.tc : Thread KernelIdeal.nD KernelIdeal.τ).loc KernelIdeal.main_arg1))
  (h2 : m' ((c.tc : Thread ReferenceIdeal.nD ReferenceIdeal.τ).loc ReferenceIdeal.main_arg2)
    = m ((c.tc : Thread KernelIdeal.nD KernelIdeal.τ).loc KernelIdeal.main_arg2))

include h0

/-- The two programs read the same rows of activations. -/
theorem same_rows (b : Fin 8) (s : Fin 3072) : ReferenceIdeal.Point.row m' c b s = KernelIdeal.Point.token m c b s :=
  funext fun l => congrFun h0 (ix3 b s l)

/-- The two programs' codes agree. -/
theorem same_codes :
    (show IVec ReferenceIdeal.S8x3072x7168 8 from (ReferenceIdeal.Gen.dats m' 0 c).arrAt 4 ReferenceIdeal.cfg0.N)
      = (show IVec KernelIdeal.S8x3072x7168 8 from W5 m ρ c (Proc.devRef .tc KernelIdeal.main_v5)) := by
  funext i
  obtain ⟨b, s, l, rfl⟩ : ∃ (b : Fin 8) (s : Fin 3072) (l : Fin 7168), i = ix3 b s l := ⟨i 0, i 1, i 2, eq_ix3 i⟩
  refine (ReferenceIdeal.Point.code_value m' c b s l).trans ?_
  rw [same_rows m m' c h0]
  exact (KernelIdeal.Point.code_result m ρ c b s l).symm

/-- The two programs' row scales agree. -/
theorem same_scales :
    (show FVec Ideal ReferenceIdeal.S8x3072x1 .f32 from (ReferenceIdeal.Gen.dats m' 0 c).arrAt 5 ReferenceIdeal.cfg0.N)
      = (show FVec Ideal KernelIdeal.S8x3072x1 .f32 from W5 m ρ c (Proc.devRef .tc KernelIdeal.main_v6)) := by
  funext i
  obtain ⟨b, s, z, rfl⟩ : ∃ (b : Fin 8) (s : Fin 3072) (z : Fin 1), i = ix3 b s z := ⟨i 0, i 1, i 2, eq_ix3 i⟩
  refine (ReferenceIdeal.Point.scale_value m' c b s z).trans ?_
  rw [same_rows m m' c h0]
  exact (KernelIdeal.Point.scale_result m ρ c b s z).symm

include h1 h2

/-- The two programs' products agree. -/
theorem same_products :
    (show FVec Ideal ReferenceIdeal.S8x3072x20480 .bf16 from (ReferenceIdeal.Gen.dats m' 0 c).arrAt 3 ReferenceIdeal.cfg0.N)
      = (show FVec Ideal KernelIdeal.S8x3072x20480 .bf16 from W5 m ρ c (Proc.devRef .tc KernelIdeal.main_v4)) := by
  funext i
  obtain ⟨b, s, o, rfl⟩ : ∃ (b : Fin 8) (s : Fin 3072) (o : Fin 20480), i = ix3 b s o := ⟨i 0, i 1, i 2, eq_ix3 i⟩
  refine (ReferenceIdeal.Point.product_value m' c b s o).trans ?_
  refine (congr (congr (congrArg product (congrArg rot (same_rows m m' c h0 b s))) (funext fun k => congrFun h1 (ix2 o k)))
    (congrFun h2 (ix1 o))).trans ?_
  exact (KernelIdeal.Point.product_result m ρ c b s o).symm

end Cert.Rotated

namespace Cert

open Idealize.ShloMosaic Idealize.ShloMosaic.TcCoe Idealize.SL.Sem

/-- From equal arguments the kernel and the reference both run, and their three results are equal. -/
theorem equal_results [hK : KernelIdeal.Facts] [hR : ReferenceIdeal.Facts] : algebraic_KernelIdeal_ReferenceIdeal := by
  intro m g m' g' _ hargs
  refine ⟨fun c => KernelIdeal.Gen.W5 m g c (Proc.devRef .tc KernelIdeal.main_v4),
    fun c => KernelIdeal.Gen.W5 m g c (Proc.devRef .tc KernelIdeal.main_v5),
    fun c => KernelIdeal.Gen.W5 m g c (Proc.devRef .tc KernelIdeal.main_v6), ?_, ?_⟩
  · exact KernelIdeal.Gen.run_buffers m g
  · refine (θ_run _ _ _).mono (fun r h c => ?_) (ReferenceIdeal.Value.run_blocks m' g')
    obtain ⟨e3, e4, e5, a0, a1, a2⟩ := h c
    obtain ⟨h0, h1, h2⟩ := hargs c
    exact ⟨e3.trans (Rotated.same_products m g m' c h0 h1 h2), e4.trans (Rotated.same_codes m g m' c h0),
      e5.trans (Rotated.same_scales m g m' c h0), a0, a1, a2⟩

end Cert

end
-- ==== Proof.lean ====
/- The proof of the certificate's claim: the kernel's frame at both instances, the reference's frame, the ideal
   program being the kernel's own text, and the equality of the three results over the extended reals. -/
module

public import proofs.«01_k».proof.Defs
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Result
public import Idealize.ShloMosaic.Adequacy
public import Idealize.ShloMosaic.Init

@[expose] public section

noncomputable section

namespace Cert.Proof

open Idealize.ShloMosaic Idealize.SL.Sem Cert.Kernel

/-- The five claims: three frames, the ideal program, and equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.equal_results⟩

end Cert.Proof

end
